-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x50 : Shape := ⟨2, ![16384, 50]⟩
abbrev S100000x128 : Shape := ⟨2, ![100000, 128]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S100000x128 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 100000#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S100000x128 : Shape := ⟨2, ![100000, 128]⟩
abbrev S32x25600 : Shape := ⟨2, ![32, 25600]⟩
abbrev S16384x50x128 : Shape := ⟨3, ![16384, 50, 128]⟩
abbrev S25600 : Shape := ⟨1, ![25600]⟩
abbrev S200x128 : Shape := ⟨2, ![200, 128]⟩
abbrev S_ : Shape := ⟨0, ![]⟩
abbrev S1x25600 : Shape := ⟨2, ![1, 25600]⟩
abbrev S104x128 : Shape := ⟨2, ![104, 128]⟩
abbrev S104 : Shape := ⟨1, ![104]⟩
abbrev S96x128 : Shape := ⟨2, ![96, 128]⟩
abbrev S96 : Shape := ⟨1, ![96]⟩
abbrev S50x128 : Shape := ⟨2, ![50, 128]⟩
abbrev S1x50x128 : Shape := ⟨3, ![1, 50, 128]⟩

abbrev nBuf : Table → Nat
  | .hbm => 4
  | .local .scVector .vmem => 5
  | _ => 0

abbrev bufTy : (tb : Table) → Fin (nBuf tb) → BufTy
  | .hbm, ⟨0, _⟩ => ⟨S16384x50, .i32⟩
  | .hbm, ⟨1, _⟩ => ⟨S100000x128, .f32⟩
  | .hbm, ⟨2, _⟩ => ⟨S32x25600, .i32⟩
  | .hbm, ⟨3, _⟩ => ⟨S16384x50x128, .f32⟩
  | .local .scVector .vmem, ⟨0, _⟩ => ⟨S25600, .i32⟩
  | .local .scVector .vmem, ⟨1, _⟩ => ⟨S200x128, .f32⟩
  | .local .scVector .vmem, ⟨2, _⟩ => ⟨S200x128, .f32⟩
  | .local .scVector .vmem, ⟨3, _⟩ => ⟨S200x128, .f32⟩
  | .local .scVector .vmem, ⟨4, _⟩ => ⟨S200x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_720_r0 : BitVec 32 := 0#32
  ![v1.toNat, 0]
def k0_off2 (i : grid0.Coords) (c0_i32_26 : BitVec 32) (c0_i32_27 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v21 : BitVec 32 := Scalar.addi v2 c0_i32_26
  let v22 : BitVec 32 := Scalar.addi v21 c0_i32_27
  let c0_i32_30 : BitVec 32 := 0#32
  let c0_i32_31 : BitVec 32 := 0#32
  ![v22.toNat, 0, 0]
def k0_off2_at (r : Fin 32) : BitVec 32 × BitVec 32 :=
  if r.val < 16 then
    if r.val < 8 then
      if r.val < 4 then
        if r.val < 2 then
          if r.val < 1 then
            (0#32, 0#32)
          else
            (0#32, 1#32)
        else
          if r.val < 3 then
            (0#32, 2#32)
          else
            (0#32, 3#32)
      else
        if r.val < 6 then
          if r.val < 5 then
            (4#32, 0#32)
          else
            (4#32, 1#32)
        else
          if r.val < 7 then
            (4#32, 2#32)
          else
            (4#32, 3#32)
    else
      if r.val < 12 then
        if r.val < 10 then
          if r.val < 9 then
            (8#32, 0#32)
          else
            (8#32, 1#32)
        else
          if r.val < 11 then
            (8#32, 2#32)
          else
            (8#32, 3#32)
      else
        if r.val < 14 then
          if r.val < 13 then
            (12#32, 0#32)
          else
            (12#32, 1#32)
        else
          if r.val < 15 then
            (12#32, 2#32)
          else
            (12#32, 3#32)
  else
    if r.val < 24 then
      if r.val < 20 then
        if r.val < 18 then
          if r.val < 17 then
            (496#32, 0#32)
          else
            (496#32, 1#32)
        else
          if r.val < 19 then
            (496#32, 2#32)
          else
            (496#32, 3#32)
      else
        if r.val < 22 then
          if r.val < 21 then
            (500#32, 0#32)
          else
            (500#32, 1#32)
        else
          if r.val < 23 then
            (500#32, 2#32)
          else
            (500#32, 3#32)
    else
      if r.val < 28 then
        if r.val < 26 then
          if r.val < 25 then
            (504#32, 0#32)
          else
            (504#32, 1#32)
        else
          if r.val < 27 then
            (504#32, 2#32)
          else
            (504#32, 3#32)
      else
        if r.val < 30 then
          if r.val < 29 then
            (508#32, 0#32)
          else
            (508#32, 1#32)
        else
          if r.val < 31 then
            (508#32, 2#32)
          else
            (508#32, 3#32)
@[reducible] def k0_t1_loop : Scf.Loop 32 :=
  let c0_i32_300 : BitVec 32 := 0#32
  let c30_i32 : BitVec 32 := 30#32
  let v227 : BitVec 32 := Scalar.addi c0_i32_300 c30_i32
  let c1_i32_301 : BitVec 32 := 1#32
  ⟨c0_i32_300, v227, c1_i32_301⟩
def k0_off3 (i : grid0.Coords) (k0_t1 : Fin k0_t1_loop.trips) (c0_i32_722 : BitVec 32) (c0_i32_734 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_721 : BitVec 32 := 4#32
  let c0_i32_300 : BitVec 32 := 0#32
  let c1_i32_301 : BitVec 32 := 1#32
  let arg22 : BitVec 32 := Scf.iv c0_i32_300 c1_i32_301 k0_t1
  let c4_i32_720 : BitVec 32 := 4#32
  let v524 : BitVec 32 := Scalar.muli arg22 c4_i32_720
  let v525 : BitVec 32 := Scalar.addi c4_i32_721 v524
  let v526 : BitVec 32 := Scalar.addi v525 c0_i32_722
  let c4_i32_733 : BitVec 32 := 4#32
  let v533 : BitVec 32 := Scalar.muli v526 c4_i32_733
  let v534 : BitVec 32 := Scalar.addi v2 v533
  let v535 : BitVec 32 := Scalar.addi v534 c0_i32_734
  let c0_i32_737 : BitVec 32 := 0#32
  let c0_i32_738 : BitVec 32 := 0#32
  ![v535.toNat, 0, 0]
def k0_off4 (k0_t1 : Fin k0_t1_loop.trips) (c0_i32_722 : BitVec 32) : Fin 1 → Nat :=
  let c4_i32_721 : BitVec 32 := 4#32
  let c0_i32_300 : BitVec 32 := 0#32
  let c1_i32_301 : BitVec 32 := 1#32
  let arg22 : BitVec 32 := Scf.iv c0_i32_300 c1_i32_301 k0_t1
  let c4_i32_720 : BitVec 32 := 4#32
  let v524 : BitVec 32 := Scalar.muli arg22 c4_i32_720
  let v525 : BitVec 32 := Scalar.addi c4_i32_721 v524
  let v526 : BitVec 32 := Scalar.addi v525 c0_i32_722
  let c2_i32_806 : BitVec 32 := 2#32
  let v587 : BitVec 32 := Scalar.addi v526 c2_i32_806
  let c200_i32_807 : BitVec 32 := 200#32
  let v588 : BitVec 32 := Scalar.muli v587 c200_i32_807
  let c0_i32_808 : BitVec 32 := 0#32
  let v589 : BitVec 32 := Scalar.addi v588 c0_i32_808
  ![v589.toNat]
def k0_off5 (k0_t1 : Fin k0_t1_loop.trips) (c0_i32_722 : BitVec 32) : Fin 1 → Nat :=
  let c4_i32_721 : BitVec 32 := 4#32
  let c0_i32_300 : BitVec 32 := 0#32
  let c1_i32_301 : BitVec 32 := 1#32
  let arg22 : BitVec 32 := Scf.iv c0_i32_300 c1_i32_301 k0_t1
  let c4_i32_720 : BitVec 32 := 4#32
  let v524 : BitVec 32 := Scalar.muli arg22 c4_i32_720
  let v525 : BitVec 32 := Scalar.addi c4_i32_721 v524
  let v526 : BitVec 32 := Scalar.addi v525 c0_i32_722
  let c2_i32_806 : BitVec 32 := 2#32
  let v587 : BitVec 32 := Scalar.addi v526 c2_i32_806
  let c200_i32_813 : BitVec 32 := 200#32
  let v593 : BitVec 32 := Scalar.muli v587 c200_i32_813
  let c104_i32_814 : BitVec 32 := 104#32
  let v594 : BitVec 32 := Scalar.addi v593 c104_i32_814
  ![v594.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x50 : Shape := ⟨2, ![16384, 50]⟩
abbrev S100000x128 : Shape := ⟨2, ![100000, 128]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x128 : Shape := ⟨3, ![16384, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S100000x128, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x128, .f32⟩
  | .hbm, ⟨21, _⟩ => ⟨S16384x50x128, .i1⟩
  | .hbm, ⟨22, _⟩ => ⟨S_, .f32⟩
  | .hbm, ⟨23, _⟩ => ⟨S16384x50x128, .f32⟩
  | .hbm, ⟨24, _⟩ => ⟨S16384x50x128, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Ops.lean ====
/-
  The kernel's program, written again by what it does: four row buffers, each with the semaphores of its two gathers
  and of its four write-outs, and one statement per step — fetch the indices, start a buffer's gathers, wait for them,
  start its write-outs, wait for them. `kernel_eq` says the printed program is this one.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Emb

open Cert.KernelIdeal Cert.KernelIdeal.Gen
open Idealize.ShloMosaic Idealize.SL.Sem

variable {F : FTy → Type}

/-! ## The kernel's memory -/

/-- The indices, the table and the result in HBM, and the indices' scratch. -/
abbrev idxV : Memref sig .scVector .hbm S32x25600 .i32 := Memref.whole main_v0_scv
abbrev tabV : Memref sig .scVector .hbm S100000x128 .f32 := Memref.whole main_arg1_scv
abbrev outV : Memref sig .scVector .hbm S16384x50x128 .f32 := Memref.whole main_v1_scv
abbrev lstV : Memref sig .scVector .vmem S25600 .i32 := Memref.whole cc0_scratch0

/-- The four row buffers. -/
abbrev buf : Fin 4 → Memref sig .scVector .vmem S200x128 .f32
  | 0 => Memref.whole cc0_scratch1
  | 1 => Memref.whole cc0_scratch2
  | 2 => Memref.whole cc0_scratch3
  | 3 => Memref.whole cc0_scratch4

/-- The semaphore of a buffer's first gather, -/
abbrev semA : Fin 4 → DmaSems sig S_
  | 0 => cc0_scratch5
  | 1 => cc0_scratch6
  | 2 => cc0_scratch7
  | 3 => cc0_scratch8

/-- of its second gather, -/
abbrev semB : Fin 4 → DmaSems sig S_
  | 0 => cc0_scratch9
  | 1 => cc0_scratch10
  | 2 => cc0_scratch11
  | 3 => cc0_scratch12

/-- and of its write-outs. -/
abbrev semW : Fin 4 → DmaSems sig S_
  | 0 => cc0_scratch13
  | 1 => cc0_scratch14
  | 2 => cc0_scratch15
  | 3 => cc0_scratch16

/-- The table as a gather addresses it. -/
abbrev tabAll : Memref sig .scVector .hbm S100000x128 .f32 :=
  tabV.slice (Rect.unit (s := S100000x128) ![0, 0] S100000x128.size inb_S100000x128_S100000x128_0_0) (fun _ => rfl)

/-- The first 104 rows of a buffer, -/
abbrev headV (b : Fin 4) : Memref sig .scVector .vmem S104x128 .f32 :=
  (buf b).slice (Rect.unit (s := S200x128) ![0, 0] S104x128.size inb_S200x128_S104x128_0_0) (fun _ => rfl)
/-- its other 96, -/
abbrev tailV (b : Fin 4) : Memref sig .scVector .vmem S96x128 .f32 :=
  (buf b).slice (Rect.unit (s := S200x128) ![104, 0] S96x128.size inb_S200x128_S96x128_104_0) (fun _ => rfl)

/-- The first row of each of a buffer's four parts of 50 rows. -/
abbrev partOff : Fin 4 → Fin 2 → ℕ
  | 0 => ![0, 0]
  | 1 => ![50, 0]
  | 2 => ![100, 0]
  | 3 => ![150, 0]
theorem partOff_inb : ∀ r : Fin 4, ∀ a, partOff r a + S50x128.size a ≤ S200x128.size a := by decide
abbrev partV (b r : Fin 4) : Memref sig .scVector .vmem S50x128 .f32 :=
  (buf b).slice (Rect.unit (s := S200x128) (partOff r) S50x128.size (partOff_inb r)) (fun _ => rfl)

/-- 104 and 96 words of the list from a given place. -/
abbrev lstA (o : Fin 1 → ℕ) (h : ∀ a, o a + S104.size a ≤ S25600.size a) : Memref sig .scVector .vmem S104 .i32 :=
  lstV.slice (Rect.unit (s := S25600) o S104.size h) (fun _ => rfl)
abbrev lstB (o : Fin 1 → ℕ) (h : ∀ a, o a + S96.size a ≤ S25600.size a) : Memref sig .scVector .vmem S96 .i32 :=
  lstV.slice (Rect.unit (s := S25600) o S96.size h) (fun _ => rfl)

/-- A 50 by 128 plane of the result. -/
abbrev planeV (o : Fin 3 → ℕ) (h : ∀ a, o a + S1x50x128.size a ≤ S16384x50x128.size a) : Memref sig .scVector .hbm S50x128 .f32 :=
  (outV.slice (Rect.unit (s := S16384x50x128) o S1x50x128.size h) (fun _ => rfl)).squeeze S50x128 squeezes_S1x50x128_S50x128

/-- A task's row of the indices. -/
abbrev idxRow (i : grid0.Coords) : Memref sig .scVector .hbm S25600 .i32 :=
  (idxV.slice (Rect.unit (s := S32x25600) (k0_off1 i) S1x25600.size (k0_off1_inb i)) (fun _ => rfl)).squeeze S25600 squeezes_S1x25600_S25600

/-! ## The steps -/

variable [FloatOps F]

section Steps
variable {p : Proc τ}

abbrev ProgV (i : grid0.Coords) : Type → Type 1 :=
  Prog (TpuEff nD τ sig (Elt F) Λ₀ (.scVector ((i 0).castLE hcore0) ((i 1).castLE hsub0)))

variable (i : grid0.Coords)

/-- Fetch the tile's indices into the list. -/
def fetch : ProgV (F := F) i PUnit := do
  Prog.lift (.enqueueDma (idxRow i) (.here lstV) (.dma cc0_scoped0.sem) ((View.wordExact_bits rfl).reshape _ _)
    (Memref.isWhole_whole _).wordExact ⟨Or.inl rfl, trivial⟩)
  Prog.lift (.waitDma2 cc0_scoped0.sem (idxRow i) lstV ((View.wordExact_bits rfl).reshape _ _) (Memref.isWhole_whole _).wordExact)

/-- Start buffer `b`'s two gathers, of the table's rows the list names from two places. -/
def fill (b : Fin 4) (oA oB : Fin 1 → ℕ) (hA : ∀ a, oA a + S104.size a ≤ S25600.size a) (hB : ∀ a, oB a + S96.size a ≤ S25600.size a) :
    ProgV (F := F) i PUnit := do
  SparseCore.enqueueIndirectGather rfl tabAll (headV b) gathers_S100000x128_S104x128 (lstA oA hA) rfl (semA b).sem (View.wordExact_bits rfl) rfl (Or.inl rfl)
  SparseCore.enqueueIndirectGather rfl tabAll (tailV b) gathers_S100000x128_S96x128 (lstB oB hB) rfl (semB b).sem (View.wordExact_bits rfl) rfl (Or.inl rfl)

/-- Wait for buffer `b`'s two gathers. -/
def arrive (b : Fin 4) : ProgV (F := F) i PUnit := do
  SparseCore.waitIndirectGather (semA b).sem tabAll (headV b) (View.wordExact_bits rfl) (View.wordExact_bits rfl)
  SparseCore.waitIndirectGather (semB b).sem tabAll (tailV b) (View.wordExact_bits rfl) (View.wordExact_bits rfl)

/-- Start one of buffer `b`'s write-outs, -/
def send1 (b r : Fin 4) (o : Fin 3 → ℕ) (h : ∀ a, o a + S1x50x128.size a ≤ S16384x50x128.size a) : ProgV (F := F) i PUnit :=
  Prog.lift (.enqueueDma (partV b r) (.here (planeV o h)) (.dma (semW b).sem) (View.wordExact_bits rfl) ((View.wordExact_bits rfl).reshape _ _) ⟨Or.inl rfl, trivial⟩)
/-- and all four. -/
def send (b : Fin 4) (o : Fin 4 → Fin 3 → ℕ) (h : ∀ r a, o r a + S1x50x128.size a ≤ S16384x50x128.size a) : ProgV (F := F) i PUnit := do
  send1 i b 0 (o 0) (h 0)
  send1 i b 1 (o 1) (h 1)
  send1 i b 2 (o 2) (h 2)
  send1 i b 3 (o 3) (h 3)

/-- Wait for one of buffer `b`'s write-outs, -/
def drain1 (b r : Fin 4) : ProgV (F := F) i PUnit :=
  Prog.lift (.waitDma2 (semW b).sem (partV b r) (planeV ![0, 0, 0] inb_S16384x50x128_S1x50x128_0_0_0) (View.wordExact_bits rfl) ((View.wordExact_bits rfl).reshape _ _))
/-- and for all four. -/
def drain (b : Fin 4) : ProgV (F := F) i PUnit := do
  drain1 i b 0
  drain1 i b 1
  drain1 i b 2
  drain1 i b 3

end Steps

/-! ## The whole program -/

variable (i : grid0.Coords)

/-- Where the result's planes of the rounds outside the loop lie, by the printed offsets: round `n` counts the first
    four and the last four. -/
abbrev edgeIx (n : Fin 8) (r : Fin 4) : Fin 32 := ⟨4 * n.val + r.val, by omega⟩
abbrev edgeOff (n : Fin 8) (r : Fin 4) : Fin 3 → ℕ := k0_off2 i (k0_off2_at (edgeIx n r)).1 (k0_off2_at (edgeIx n r)).2
theorem edgeOff_inb (n : Fin 8) (r : Fin 4) : ∀ a, edgeOff i n r a + S1x50x128.size a ≤ S16384x50x128.size a := k0_off2_inb i (edgeIx n r)

/-- And in the loop. -/
abbrev loopOff (t : Fin k0_t1_loop.trips) (b r : Fin 4) : Fin 3 → ℕ := k0_off3 i t (BitVec.ofNat 32 b.val) (BitVec.ofNat 32 r.val)
theorem loopOff_inb (t : Fin k0_t1_loop.trips) (b r : Fin 4) : ∀ a, loopOff i t b r a + S1x50x128.size a ≤ S16384x50x128.size a := k0_off3_inb i t b r
abbrev loopA (t : Fin k0_t1_loop.trips) (b : Fin 4) : Fin 1 → ℕ := k0_off4 t (BitVec.ofNat 32 b.val)
abbrev loopB (t : Fin k0_t1_loop.trips) (b : Fin 4) : Fin 1 → ℕ := k0_off5 t (BitVec.ofNat 32 b.val)

/-- One round of the loop. -/
def round (t : Fin k0_t1_loop.trips) (b b' : Fin 4) : ProgV (F := F) i PUnit := do
  arrive i b
  send i b (loopOff i t b) (loopOff_inb i t b)
  drain i b'
  fill i b' (loopA t b) (loopB t b) (k0_off4_inb t b) (k0_off5_inb t b)

def trip (t : Fin k0_t1_loop.trips) : ProgV (F := F) i PUnit := do
  round i t 0 2
  round i t 1 3
  round i t 2 0
  round i t 3 1

/-- What precedes the loop. -/
def before : ProgV (F := F) i PUnit := do
  fetch i
  fill i 0 ![0] ![104] inb_S25600_S104_0 inb_S25600_S96_104
  fill i 1 ![200] ![304] inb_S25600_S104_200 inb_S25600_S96_304
  arrive i 0
  send i 0 (edgeOff i 0) (edgeOff_inb i 0)
  fill i 2 ![400] ![504] inb_S25600_S104_400 inb_S25600_S96_504
  arrive i 1
  send i 1 (edgeOff i 1) (edgeOff_inb i 1)
  fill i 3 ![600] ![704] inb_S25600_S104_600 inb_S25600_S96_704
  arrive i 2
  send i 2 (edgeOff i 2) (edgeOff_inb i 2)
  drain i 0
  fill i 0 ![800] ![904] inb_S25600_S104_800 inb_S25600_S96_904
  arrive i 3
  send i 3 (edgeOff i 3) (edgeOff_inb i 3)
  drain i 1
  fill i 1 ![1000] ![1104] inb_S25600_S104_1000 inb_S25600_S96_1104

/-- What follows it. -/
def after : ProgV (F := F) i PUnit := do
  arrive i 0
  send i 0 (edgeOff i 4) (edgeOff_inb i 4)
  drain i 2
  fill i 2 ![25200] ![25304] inb_S25600_S104_25200 inb_S25600_S96_25304
  arrive i 1
  send i 1 (edgeOff i 5) (edgeOff_inb i 5)
  drain i 3
  fill i 3 ![25400] ![25504] inb_S25600_S104_25400 inb_S25600_S96_25504
  arrive i 2
  send i 2 (edgeOff i 6) (edgeOff_inb i 6)
  drain i 0
  arrive i 3
  send i 3 (edgeOff i 7) (edgeOff_inb i 7)
  drain i 1
  drain i 2
  drain i 3

def whole : ProgV (F := F) i PUnit := do
  before i
  Scf.Loop.for k0_t1_loop k0_t1_ok ⟨⟩ fun t _ => trip i t
  after i

abbrev printed : ProgV (F := F) i PUnit :=
  cc0_emb_kernel i idxV (Memref.isWhole_whole _) tabV (Memref.isWhole_whole _) outV (Memref.isWhole_whole _)
    lstV (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scratch12
    cc0_scratch13 cc0_scratch14 cc0_scratch15 cc0_scratch16 cc0_scoped0

abbrev loopP : ProgV (F := F) i PUnit := Scf.Loop.for k0_t1_loop k0_t1_ok ⟨⟩ fun t _ => trip i t

set_option maxRecDepth 65536 in
/-- The printed program's last part begins in the window that holds the loop: cut there, its two pieces are `after`. -/
theorem kernel_cut : ∃ (T : ProgV (F := F) i (BitVec 32)) (R : BitVec 32 → ProgV (F := F) i PUnit),
    printed (F := F) i = (before i >>= fun _ => ((loopP i >>= fun _ => T) >>= R)) ∧ (T >>= R) = after i :=
  ⟨_, _, rfl, rfl⟩

/-- The printed program is this one. -/
theorem kernel_eq : printed (F := F) i = whole i := by
  obtain ⟨T, R, h, h'⟩ := kernel_cut (F := F) i
  rw [h, whole, ← h']
  simp only [bind_assoc]

end Cert.Proof.Emb

end
-- ==== Proof.Base.lean ====
/-
  What the kernel's memory holds, and how it is cut. Tile `w` of 32 looks up rows `512 w` to `512 w + 512` of the
  result; its list of 25600 row numbers is row `w` of the indices. Chunk `g` is 200 of them, and fills one row buffer:
  `chunk` is what it then holds, `result` what the result holds in the end.
-/
module

public import proofs.«01_k».proof.Proof.Ops

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem core_lt (L : grid0.Coords) : (L 0).val < 2 := (L 0).isLt
theorem sub_lt (L : grid0.Coords) : (L 1).val < 16 := (L 1).isLt

/-- The tile's number among the 32. -/
def tile (L : grid0.Coords) : Fin 32 := ⟨2 * (L 1).val + (L 0).val, by have := core_lt L; have := sub_lt L; omega⟩

/-! ## What is held -/

section Contents

variable (tab : S100000x128.Idx → Elt F .f32) (IX : S32x25600.Idx → Elt F .i32)

/-- The table row that word `n` of tile `w`'s list names. -/
def rowNo (w : Fin 32) (n : ℕ) : Fin 100000 :=
  ⟨(IX (Shape.pair w ⟨n % 25600, Nat.mod_lt _ (by decide)⟩) : BitVec 32).toNat % 100000, Nat.mod_lt _ (by decide)⟩

/-- Tile `w`'s list. -/
def list (w : Fin 32) : S25600.Idx → Elt F .i32 := fun j => IX (Shape.pair w (j 0))

/-- What chunk `g` of tile `w` puts in a row buffer. -/
def chunk (w : Fin 32) (g : ℕ) : S200x128.Idx → Elt F .f32 := fun x => tab (Shape.pair (rowNo (F := F) IX w (200 * g + (x 0).val)) (x 1))

/-- The result. -/
def result : S16384x50x128.Idx → Elt F .f32 := fun y =>
  tab (Shape.pair (rowNo (F := F) IX ⟨(y 0).val / 512, by have : (y 0).val < 16384 := (y 0).isLt; omega⟩ ((y 0).val % 512 * 50 + (y 1).val)) (y 2))

/-- Where every word of the indices is a row of the table, a list's word is the row it names. -/
theorem list_rowNo (hIX : ∀ j, (IX j : BitVec 32).toNat < 100000) (w : Fin 32) (j : S25600.Idx) :
    (list (F := F) IX w j : BitVec 32).toNat = (rowNo (F := F) IX w (j 0).val).val := by
  unfold list rowNo
  have hj : (j 0).val < 25600 := (j 0).isLt
  have e : (⟨(j 0).val % 25600, Nat.mod_lt _ (by decide)⟩ : Fin 25600) = j 0 := Fin.ext (Nat.mod_eq_of_lt hj)
  show _ = (IX (Shape.pair w (⟨(j 0).val % 25600, Nat.mod_lt _ (by decide)⟩ : Fin 25600)) : BitVec 32).toNat % 100000
  rw [e, Nat.mod_eq_of_lt (hIX _)]

end Contents

/-! ## Views -/

/-- The index of a one-axis shape at `k`. -/
def at1 {n : ℕ} (k : Fin n) : (⟨1, ![n]⟩ : Shape).Idx := fun | 0 => k

/-- What a gather delivers: row `k` of what it reads from, `k` the list's word. -/
theorem gathered {n : ℕ} (hg : S100000x128.Gathers 0 ⟨2, ![n, 128]⟩) (hn : (⟨1, ![n]⟩ : Shape).numel = (⟨2, ![n, 128]⟩ : Shape).size hg.axis')
    (t : S100000x128.Idx → Elt F .f32) (l : (⟨1, ![n]⟩ : Shape).Idx → Elt F .i32) (hin : ∀ x, (l x : BitVec 32).toNat < S100000x128.size hg.axis)
    (x : (⟨2, ![n, 128]⟩ : Shape).Idx) :
    SparseCore.gatherPayload (F := F) hg t (SparseCore.rows l hn hin) x
      = t (Shape.pair (⟨(l (at1 (x 0)) : BitVec 32).toNat, hin _⟩ : Fin 100000) (x 1)) := by
  unfold SparseCore.gatherPayload
  congr 1
  funext b
  match b with
  | 0 =>
    have h := Shape.Gathers.idx_axis hg (SparseCore.rows l hn hin) x
    refine h.trans ?_
    unfold SparseCore.rows
    apply Fin.ext
    show (l _ : BitVec 32).toNat = (l _ : BitVec 32).toNat
    congr 2
    rw [Equiv.symm_apply_eq]
    apply Fin.ext
    rw [Shape.rowMajor_val_one]; rfl
  | 1 =>
    apply Fin.ext
    exact Shape.Gathers.idx_of_ne hg (SparseCore.rows l hn hin) x 1 (by decide)

section Pts

variable {κ : Kind} {sp : Space} {s : Shape} {e : EltTy} {c : Thread nD τ}

/-- Contents that read alike through a view are held alike at its elements. -/
theorem pts_of_read (v : View sig c.2.kind sp s e) {q : PosShare TreeShare} {f f' : Buf (Elt F) (v.loc c)}
    (h : v.read (Elt F) f = v.read (Elt F) f') : (v.loc c ↦[v.set]{q} f : sProp 𝕄) = v.loc c ↦[v.set]{q} f' := by
  refine pointsTo_congr fun i hi => ?_
  obtain ⟨x, -, rfl⟩ := Finset.mem_map.mp hi
  have hx := congrFun h x
  rw [View.read_apply, View.read_apply] at hx
  exact (cast_inj _).mp hx

/-- Rectangles that share nothing and together cover a view cut what is held of it into their pieces. -/
theorem pts_cut (v : View sig c.2.kind sp s e) {n : ℕ} (r : Fin n → Rect s) (hd : ∀ i j, i ≠ j → Disjoint (r i).set (r j).set)
    (hc : ∀ x : s.Idx, ∃ i, x ∈ (r i).set) (q : PosShare TreeShare) (f : Buf (Elt F) (v.loc c)) :
    (v.loc c ↦[v.set]{q} f : sProp 𝕄) = bigSep Finset.univ fun i => v.loc c ↦[(v.slice (r i)).set]{q} f := by
  rw [← pointsTo_biUnion Finset.univ (ℓ := v.loc c) (fun i => (v.slice (r i)).set)
    (fun i _ j _ h => by
      show Disjoint (v.slice (r i)).set (v.slice (r j)).set
      rw [View.set_slice, View.set_slice]; exact (Finset.disjoint_map v.emb).mpr (hd i j h))]
  congr 1
  ext y
  simp only [Finset.mem_biUnion, Finset.mem_univ, true_and, View.set_slice]
  constructor
  · intro hy
    obtain ⟨x, -, rfl⟩ := Finset.mem_map.mp hy
    obtain ⟨i, hi⟩ := hc x
    exact ⟨i, Finset.mem_map_of_mem _ hi⟩
  · rintro ⟨i, hi⟩
    obtain ⟨x, -, rfl⟩ := Finset.mem_map.mp hi
    exact Finset.mem_map_of_mem _ (Finset.mem_univ x)

end Pts

/-! ## A row buffer's contents, and its pieces -/

variable (d : Dev nD) (L : grid0.Coords)

/-- A row buffer with the contents `h`. -/
def toBuf (h : S200x128.Idx → Elt F .f32) : (b : Fin 4) → Buf (Elt F) ((buf b).view.loc (thr d L))
  | 0 => h
  | 1 => h
  | 2 => h
  | 3 => h

theorem read_toBuf (h : S200x128.Idx → Elt F .f32) (b : Fin 4) : (buf b).view.read (Elt F) (toBuf d L h b) = h := by
  match b with
  | 0 => rfl
  | 1 => rfl
  | 2 => rfl
  | 3 => rfl

/-- The rectangles of a buffer's two halves, -/
abbrev halfRect : Fin 2 → Rect S200x128
  | 0 => Rect.unit (s := S200x128) ![0, 0] S104x128.size inb_S200x128_S104x128_0_0
  | 1 => Rect.unit (s := S200x128) ![104, 0] S96x128.size inb_S200x128_S96x128_104_0
/-- and of its four parts. -/
abbrev partRect (r : Fin 4) : Rect S200x128 := Rect.unit (s := S200x128) (partOff r) S50x128.size (partOff_inb r)

theorem partOff_zero (r : Fin 4) : partOff r 0 = 50 * r.val := by revert r; decide
theorem partOff_one (r : Fin 4) : partOff r 1 = 0 := by revert r; decide

theorem mem_half (x : S200x128.Idx) (i : Fin 2) : x ∈ (halfRect i).set ↔ (if i = 0 then (x 0).val < 104 else 104 ≤ (x 0).val) := by
  have h0 : (x 0).val < 200 := (x 0).isLt
  have h1 : (x 1).val < 128 := (x 1).isLt
  match i with
  | 0 =>
    rw [Rect.mem_set_unit, Fin.forall_fin_two]
    simp only [Matrix.cons_val_zero, Matrix.cons_val_one, if_true]
    constructor
    · rintro ⟨⟨-, h⟩, -⟩; omega
    · intro h; refine ⟨⟨?_, ?_⟩, ?_, ?_⟩ <;> omega
  | 1 =>
    rw [Rect.mem_set_unit, Fin.forall_fin_two]
    simp only [Matrix.cons_val_zero, Matrix.cons_val_one, if_false, one_ne_zero]
    constructor
    · rintro ⟨⟨h, -⟩, -⟩; omega
    · intro h; refine ⟨⟨?_, ?_⟩, ?_, ?_⟩ <;> omega

theorem mem_part (x : S200x128.Idx) (r : Fin 4) : x ∈ (partRect r).set ↔ (x 0).val / 50 = r.val := by
  have h0 : (x 0).val < 200 := (x 0).isLt
  have h1 : (x 1).val < 128 := (x 1).isLt
  rw [Rect.mem_set_unit, Fin.forall_fin_two, partOff_zero, partOff_one]
  simp only [Matrix.cons_val_zero, Matrix.cons_val_one]
  constructor
  · rintro ⟨⟨h, h'⟩, -⟩; omega
  · intro h; refine ⟨⟨?_, ?_⟩, ?_, ?_⟩ <;> omega

/-- A buffer is its two halves, -/
theorem buf_halves (b : Fin 4) (q : PosShare TreeShare) (f : Buf (Elt F) ((buf b).view.loc (thr d L))) :
    ((buf b).view.loc (thr d L) ↦[(buf b).view.set]{q} f : sProp 𝕄)
      = iprop(((headV b).view.loc (thr d L) ↦[(headV b).view.set]{q} f) ∗ ((tailV b).view.loc (thr d L) ↦[(tailV b).view.set]{q} f)) := by
  refine (pts_cut (c := thr d L) (buf b).view halfRect (fun i j h => Finset.disjoint_left.mpr fun x hi hj => ?_) (fun x => ?_) q f).trans
    (bigSep_univ_two _)
  · rw [mem_half] at hi hj
    fin_cases i <;> fin_cases j <;> simp at hi hj h <;> omega
  · by_cases h : (x 0).val < 104
    · exact ⟨0, (mem_half x 0).mpr (by simpa using h)⟩
    · exact ⟨1, (mem_half x 1).mpr (by simpa using h)⟩

/-- and its four parts. -/
theorem buf_parts (b : Fin 4) (q : PosShare TreeShare) (f : Buf (Elt F) ((buf b).view.loc (thr d L))) :
    ((buf b).view.loc (thr d L) ↦[(buf b).view.set]{q} f : sProp 𝕄)
      = bigSep Finset.univ fun r : Fin 4 => (partV b r).view.loc (thr d L) ↦[(partV b r).view.set]{q} f := by
  refine pts_cut (c := thr d L) (buf b).view partRect (fun i j h => Finset.disjoint_left.mpr fun x hi hj => ?_) (fun x => ?_) q f
  · rw [mem_part] at hi hj
    exact h (Fin.ext (hi.symm.trans hj))
  · have h0 : (x 0).val < 200 := (x 0).isLt
    exact ⟨⟨(x 0).val / 50, by omega⟩, (mem_part x _).mpr rfl⟩

end Cert.Proof.Emb

end
-- ==== Proof.Values.lean ====
/-
  What the kernel's copies read and write, place by place: a tile's row of the indices, the table's rows its gathers
  deliver, the planes of the result its write-outs fill.
-/
module

public import proofs.«01_k».proof.Proof.Base

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : S100000x128.Idx → Elt F .f32) (IX : S32x25600.Idx → Elt F .i32)
variable (d : Dev nD) (L : grid0.Coords)

/-! ## The result's planes -/

/-- The result's index in plane `n` at `(p, c)`. -/
def at3 (n : Fin 16384) (p : Fin 50) (c : Fin 128) : S16384x50x128.Idx := fun | 0 => n | 1 => p | 2 => c

/-- The elements of the result's plane `n`. -/
def plane (n : ℕ) : Finset S16384x50x128.Idx := Finset.univ.filter fun y => (y 0).val = n

theorem mem_plane {n : ℕ} {y : S16384x50x128.Idx} : y ∈ plane n ↔ (y 0).val = n := by simp [plane]

theorem plane_disjoint {n n' : ℕ} (h : n ≠ n') : Disjoint (plane n) (plane n') :=
  Finset.disjoint_left.mpr fun _ h1 h2 => h ((mem_plane.mp h1).symm.trans (mem_plane.mp h2))

/-- A plane's view places `(p, c)` there. -/
theorem planeV_emb (o : Fin 3 → ℕ) (h : ∀ a, o a + S1x50x128.size a ≤ S16384x50x128.size a) (n : Fin 16384) (ho : o = ![n.val, 0, 0]) (x : S50x128.Idx) :
    (planeV o h).view.emb x = at3 n (x 0) (x 1) := by
  subst ho
  show (Rect.unit (s := S16384x50x128) ![n.val, 0, 0] S1x50x128.size h).emb (Shape.reshapeEquiv squeezes_S1x50x128_S50x128.numel_eq x) = _
  rw [Shape.reshapeEquiv_cons_one (n := 2) (d := ![50, 128])]
  funext a
  apply Fin.ext
  rw [Rect.emb_apply]
  match a with
  | 0 => simp [at3]; rfl
  | 1 => simp [at3]; rfl
  | 2 => simp [at3]; rfl

theorem planeV_set (o : Fin 3 → ℕ) (h : ∀ a, o a + S1x50x128.size a ≤ S16384x50x128.size a) (n : Fin 16384) (ho : o = ![n.val, 0, 0]) :
    (planeV o h).view.set = plane n.val := by
  ext y
  rw [mem_plane]
  constructor
  · intro hy
    obtain ⟨x, -, rfl⟩ := Finset.mem_map.mp hy
    rw [planeV_emb o h n ho]; rfl
  · intro hy
    refine Finset.mem_map.mpr ⟨Shape.pair (d := ![50, 128]) (y 1) (y 2), Finset.mem_univ _, ?_⟩
    rw [planeV_emb o h n ho]
    funext a
    match a with
    | 0 => exact Fin.ext hy.symm
    | 1 => rfl
    | 2 => rfl

/-! ## The indices -/

/-- The elements of the indices' row `w`. -/
def idxSet (w : ℕ) : Finset S32x25600.Idx := Finset.univ.filter fun j => (j 0).val = w

theorem mem_idxSet {w : ℕ} {j : S32x25600.Idx} : j ∈ idxSet w ↔ (j 0).val = w := by simp [idxSet]

theorem idxRow_emb (x : S25600.Idx) : (idxRow L).view.emb x = Shape.pair (d := ![32, 25600]) (tile L) (x 0) := by
  show (Rect.unit (s := S32x25600) (k0_off1 L) S1x25600.size (k0_off1_inb L)).emb (Shape.reshapeEquiv squeezes_S1x25600_S25600.numel_eq x) = _
  rw [Shape.reshapeEquiv_cons_one (n := 1) (d := ![25600])]
  funext a
  apply Fin.ext
  have e := congrFun (k0_off1_eq L) a
  refine (congrArg (· + 1 * _) e).trans ?_
  match a with
  | 0 => show (2 * (L 1).val + (L 0).val) + 1 * 0 = 2 * (L 1).val + (L 0).val; omega
  | 1 => show 0 + 1 * (x 0).val = (x 0).val; omega

theorem idxRow_set : (idxRow L).view.set = idxSet (tile L).val := by
  ext y
  rw [mem_idxSet]
  constructor
  · intro hy
    obtain ⟨x, -, rfl⟩ := Finset.mem_map.mp hy
    rw [idxRow_emb]; rfl
  · intro hy
    refine Finset.mem_map.mpr ⟨at1 (y 1), Finset.mem_univ _, ?_⟩
    rw [idxRow_emb]
    funext a
    match a with
    | 0 => exact Fin.ext hy.symm
    | 1 => rfl

/-- What the fetch delivers: the tile's list. -/
theorem fetched : (idxRow L).view.read (Elt F) (IX : Buf (Elt F) ((idxRow L).view.loc (thr d L))) = list (F := F) IX (tile L) := by
  funext x
  rw [View.read_apply, idxRow_emb]; rfl

/-! ## What the gathers deliver -/

theorem lstA_in (hIX : ∀ j, (IX j : BitVec 32).toNat < 100000) (w : Fin 32) (o : Fin 1 → ℕ) (h : ∀ a, o a + S104.size a ≤ S25600.size a)
    (x : S104.Idx) : ((lstA o h).view.read (Elt F) (list (F := F) IX w) x : BitVec 32).toNat < S100000x128.size gathers_S100000x128_S104x128.axis :=
  hIX _
theorem lstB_in (hIX : ∀ j, (IX j : BitVec 32).toNat < 100000) (w : Fin 32) (o : Fin 1 → ℕ) (h : ∀ a, o a + S96.size a ≤ S25600.size a)
    (x : S96.Idx) : ((lstB o h).view.read (Elt F) (list (F := F) IX w) x : BitVec 32).toNat < S100000x128.size gathers_S100000x128_S96x128.axis :=
  hIX _

/-- Addressed from its first element, the table reads as itself. -/
theorem tabAll_read : tabAll.view.read (Elt F) (tab : Buf (Elt F) (tabAll.view.loc (thr d L))) = tab := by
  funext x
  rw [View.read_apply]
  refine congrArg tab (funext fun a => Fin.ext ?_)
  show (![0, 0] : Fin 2 → ℕ) a + 1 * (x a).val = (x a).val
  match a with
  | 0 => simp
  | 1 => simp

/-- The first gather of chunk `g` delivers a buffer's first half; -/
theorem headed (hIX : ∀ j, (IX j : BitVec 32).toNat < 100000) (w : Fin 32) (g : ℕ) (b : Fin 4) (o : Fin 1 → ℕ)
    (h : ∀ a, o a + S104.size a ≤ S25600.size a) (ho : o = ![200 * g]) :
    SparseCore.gatherPayload (F := F) gathers_S100000x128_S104x128 (tabAll.view.read (Elt F) (tab : Buf (Elt F) (tabAll.view.loc (thr d L))))
        (SparseCore.rows ((lstA o h).view.read (Elt F) (list (F := F) IX w)) rfl (lstA_in IX hIX w o h))
      = (headV b).view.read (Elt F) (toBuf d L (chunk (F := F) tab IX w g) b) := by
  subst ho
  rw [tabAll_read]
  funext x
  refine (gathered (n := 104) _ _ _ _ _ x).trans ?_
  show _ = (buf b).view.read (Elt F) (toBuf d L (chunk (F := F) tab IX w g) b) ((halfRect 0).emb x)
  rw [read_toBuf]
  refine congrArg tab (funext fun a => Fin.ext ?_)
  match a with
  | 0 =>
    refine (list_rowNo (F := F) IX hIX w _).trans ?_
    show (rowNo (F := F) IX w (200 * g + 1 * (x 0).val)).val = (rowNo (F := F) IX w (200 * g + (0 + 1 * (x 0).val))).val
    rw [Nat.one_mul, Nat.zero_add]
  | 1 => show (x 1).val = 0 + 1 * (x 1).val; omega

/-- the second its other half. -/
theorem tailed (hIX : ∀ j, (IX j : BitVec 32).toNat < 100000) (w : Fin 32) (g : ℕ) (b : Fin 4) (o : Fin 1 → ℕ)
    (h : ∀ a, o a + S96.size a ≤ S25600.size a) (ho : o = ![200 * g + 104]) :
    SparseCore.gatherPayload (F := F) gathers_S100000x128_S96x128 (tabAll.view.read (Elt F) (tab : Buf (Elt F) (tabAll.view.loc (thr d L))))
        (SparseCore.rows ((lstB o h).view.read (Elt F) (list (F := F) IX w)) rfl (lstB_in IX hIX w o h))
      = (tailV b).view.read (Elt F) (toBuf d L (chunk (F := F) tab IX w g) b) := by
  subst ho
  rw [tabAll_read]
  funext x
  refine (gathered (n := 96) _ _ _ _ _ x).trans ?_
  show _ = (buf b).view.read (Elt F) (toBuf d L (chunk (F := F) tab IX w g) b) ((halfRect 1).emb x)
  rw [read_toBuf]
  refine congrArg tab (funext fun a => Fin.ext ?_)
  match a with
  | 0 =>
    refine (list_rowNo (F := F) IX hIX w _).trans ?_
    show (rowNo (F := F) IX w (200 * g + 104 + 1 * (x 0).val)).val = (rowNo (F := F) IX w (200 * g + (104 + 1 * (x 0).val))).val
    rw [Nat.add_assoc]
  | 1 => show (x 1).val = 0 + 1 * (x 1).val; omega

/-! ## What the write-outs leave -/

/-- Part `r` of chunk `g` is what the result holds in plane `512 w + 4 g + r`. -/
theorem sent (w : Fin 32) (g : ℕ) (hg : g < 128) (b r : Fin 4) (o : Fin 3 → ℕ) (h : ∀ a, o a + S1x50x128.size a ≤ S16384x50x128.size a)
    (ho : o = ![512 * w.val + (4 * g + r.val), 0, 0]) :
    (partV b r).view.read (Elt F) (toBuf d L (chunk (F := F) tab IX w g) b)
      = (planeV o h).view.read (Elt F) (result (F := F) tab IX : Buf (Elt F) ((planeV o h).view.loc (thr d L))) := by
  have hw := w.isLt
  have hr := r.isLt
  funext x
  have hx : (x 0).val < 50 := (x 0).isLt
  show (buf b).view.read (Elt F) (toBuf d L (chunk (F := F) tab IX w g) b) ((partRect r).emb x) = _
  rw [read_toBuf, View.read_apply, planeV_emb o h ⟨512 * w.val + (4 * g + r.val), by omega⟩ ho]
  refine congrArg tab (funext fun a => Fin.ext ?_)
  match a with
  | 0 =>
    show (rowNo (F := F) IX w (200 * g + (partOff r 0 + 1 * (x 0).val))).val
      = (rowNo (F := F) IX ⟨(512 * w.val + (4 * g + r.val)) / 512, _⟩ ((512 * w.val + (4 * g + r.val)) % 512 * 50 + (x 0).val)).val
    rw [partOff_zero]
    have e1 : (512 * w.val + (4 * g + r.val)) / 512 = w.val := by omega
    have e2 : (512 * w.val + (4 * g + r.val)) % 512 * 50 + (x 0).val = 200 * g + (50 * r.val + 1 * (x 0).val) := by omega
    rw [e2]
    congr 2
    exact Fin.ext e1.symm
  | 1 =>
    show partOff r 1 + 1 * (x 1).val = (x 1).val
    rw [partOff_one]; omega

/-! ## Where the printed offsets lie -/

theorem edgeOff_eq : ∀ (L : grid0.Coords) (n : Fin 8) (r : Fin 4),
    edgeOff L n r = ![512 * (2 * (L 1).val + (L 0).val) + (4 * (if n.val < 4 then n.val else n.val + 120) + r.val), 0, 0] := by
  decide +kernel

end Cert.Proof.Emb

end
-- ==== Proof.Steps.lean ====
/-
  What each step of the kernel does to a row buffer. A buffer is free, being filled by its two gathers with a chunk,
  filled, or being written out; `fill`, `arrive`, `send` and `drain` take it round. A chunk's rows are named with it,
  so what a write-out leaves in the result is known when it is waited for.
-/
module

public import proofs.«01_k».proof.Proof.Values

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A flight with something held beside it delivers what the two together yield. -/
theorem flight_take {c : Thread nD τ} {sm : SemLoc sig} {ι : HIx 1} {N : ℕ} {R A B : sProp 𝕄} (h : iprop(A ∗ R) ⊢ B) :
    iprop(Transfers.Flight countersEmb c sm ι N A ∗ R) ⊢ (Transfers.Flight countersEmb c sm ι N B : sProp 𝕄) := by
  unfold Transfers.Flight
  iintro ⟨⟨⟨%R₀, HR₀, %hcap, %hpeek⟩, Hcred⟩, HR⟩
  isplitl [HR₀ HR]
  · iexists iprop(R₀ ∗ R)
    isplitl [HR₀ HR]; · isplitl [HR₀] <;> iassumption
    isplit
    · ipureintro
      intro K'
      refine BIBase.Entails.trans ?_ (hcap K')
      iintro ⟨⟨HR₀, HR⟩, HK⟩
      isplitl [HR₀]; · iexact HR₀
      iintro ⟨Hv, HA⟩
      iapply HK
      isplitl [Hv]; · iexact Hv
      iapply h
      isplitl [HA] <;> iassumption
    · ipureintro
      intro K'
      refine BIBase.Entails.trans ?_ (hpeek K')
      iintro ⟨⟨HR₀, HR⟩, HK⟩
      isplitl [HR₀]; · iexact HR₀
      iintro HR₀
      iapply HK
      isplitl [HR₀] <;> iassumption
  · iexact Hcred

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

variable (tab : S100000x128.Idx → Elt F .f32) (IX : S32x25600.Idx → Elt F .i32) (f₀ : S16384x50x128.Idx → Elt F .f32)
variable (q : PosShare TreeShare) (d : Dev nD) (L : grid0.Coords)

/-! ## What is held -/

/-- The read share of the table and of the list that half `h` of buffer `b` is gathered with. -/
abbrev tokTab (b : Fin 4) (h : Fin 2) : PosShare TreeShare := Transfers.shareTok q 8 ⟨2 * b.val + h.val, by omega⟩
abbrev tokLst (b : Fin 4) (h : Fin 2) : PosShare TreeShare := Transfers.shareTok fullShare 8 ⟨2 * b.val + h.val, by omega⟩
abbrev tabPts (q' : PosShare TreeShare) : sProp 𝕄 := tabV.view.loc (thr d L) ↦{q'} (tab : Buf (Elt F) (tabV.view.loc (thr d L)))
abbrev lstPts (q' : PosShare TreeShare) : sProp 𝕄 := lstV.view.loc (thr d L) ↦{q'} (list (F := F) IX (tile L) : Buf (Elt F) (lstV.view.loc (thr d L)))
abbrev tok (b : Fin 4) (h : Fin 2) : sProp 𝕄 := iprop(tabPts tab d L (tokTab q b h) ∗ lstPts IX d L (tokLst b h))

abbrev zeroA (b : Fin 4) : sProp 𝕄 := semVal (thr d L, .dma (semA b).sem) 0
abbrev zeroB (b : Fin 4) : sProp 𝕄 := semVal (thr d L, .dma (semB b).sem) 0
abbrev zeroW (b : Fin 4) : sProp 𝕄 := semVal (thr d L, .dma (semW b).sem) 0

/-- Chunk `g`, as a buffer's contents. -/
abbrev chunkB (g : ℕ) (b : Fin 4) : Buf (Elt F) ((buf b).view.loc (thr d L)) := toBuf d L (chunk (F := F) tab IX (tile L) g) b
abbrev bufPts (b : Fin 4) (f : Buf (Elt F) ((buf b).view.loc (thr d L))) : sProp 𝕄 :=
  (buf b).view.loc (thr d L) ↦[(buf b).view.set]{fullShare} f
abbrev headPts (b : Fin 4) (f : Buf (Elt F) ((buf b).view.loc (thr d L))) : sProp 𝕄 :=
  (headV b).view.loc (thr d L) ↦[(headV b).view.set]{fullShare} f
abbrev tailPts (b : Fin 4) (f : Buf (Elt F) ((buf b).view.loc (thr d L))) : sProp 𝕄 :=
  (tailV b).view.loc (thr d L) ↦[(tailV b).view.set]{fullShare} f
abbrev partPts (b r : Fin 4) (f : Buf (Elt F) ((buf b).view.loc (thr d L))) : sProp 𝕄 :=
  (partV b r).view.loc (thr d L) ↦[(partV b r).view.set]{fullShare} f

/-- Plane `n` of the result at the contents `f`, and the four planes of the tile's chunk `g`. -/
abbrev planePts (n : ℕ) (f : S16384x50x128.Idx → Elt F .f32) : sProp 𝕄 :=
  outV.view.loc (thr d L) ↦[plane n]{fullShare} (f : Buf (Elt F) (outV.view.loc (thr d L)))
abbrev planeNo (g : ℕ) (r : Fin 4) : ℕ := 512 * (tile L).val + (4 * g + r.val)
abbrev fourPts (g : ℕ) (f : S16384x50x128.Idx → Elt F .f32) : sProp 𝕄 :=
  bigSep Finset.univ fun r : Fin 4 => planePts d L (planeNo L g r) f

/-- A buffer nothing is done with, -/
def Free (b : Fin 4) : sProp 𝕄 :=
  iprop((∃ f, bufPts d L b f) ∗ zeroA d L b ∗ zeroB d L b ∗ zeroW d L b ∗ tok tab IX q d L b 0 ∗ tok tab IX q d L b 1)

/-- one being filled with chunk `g`, -/
def Filling (b : Fin 4) (g : ℕ) : sProp 𝕄 :=
  iprop(Transfers.Flight countersEmb (thr d L) (.dma (semA b).sem) (default : HIx 1) (headV b).view.dmaCredit
      iprop(headPts d L b (chunkB tab IX d L g b) ∗ tok tab IX q d L b 0)
    ∗ Transfers.Flight countersEmb (thr d L) (.dma (semB b).sem) (default : HIx 1) (tailV b).view.dmaCredit
      iprop(tailPts d L b (chunkB tab IX d L g b) ∗ tok tab IX q d L b 1)
    ∗ zeroW d L b)

/-- one filled with it, -/
def Filled (b : Fin 4) (g : ℕ) : sProp 𝕄 :=
  iprop(bufPts d L b (chunkB tab IX d L g b) ∗ zeroA d L b ∗ zeroB d L b ∗ zeroW d L b ∗ tok tab IX q d L b 0 ∗ tok tab IX q d L b 1)

/-- what a part's write-out delivers, -/
def outgo (b : Fin 4) (g : ℕ) (r : Fin 4) : sProp 𝕄 :=
  iprop(planePts d L (planeNo L g r) (result (F := F) tab IX) ∗ partPts d L b r (chunkB tab IX d L g b))

instance outgo_storable (b : Fin 4) (g : ℕ) (r : Fin 4) : BI.Storable (upEmb : UEmb _ 𝕄) (outgo tab IX d L b g r) := by
  unfold outgo; infer_instance

abbrev NW : ℕ := (planeV ![0, 0, 0] inb_S16384x50x128_S1x50x128_0_0_0).view.dmaCredit
theorem NW_pos : 0 < NW := View.dmaCredit_pos _ (by decide)

abbrev batchW (b : Fin 4) (g j u : ℕ) : sProp 𝕄 :=
  Transfers.Batch countersEmb (thr d L) (.dma (semW b).sem) (default : HIx 1) NW (outgo tab IX d L b g) j u

/-- and one being written out. -/
def Sending (b : Fin 4) (g : ℕ) : sProp 𝕄 :=
  iprop(batchW tab IX d L b g 4 0 ∗ zeroA d L b ∗ zeroB d L b ∗ tok tab IX q d L b 0 ∗ tok tab IX q d L b 1)

/-- What the tile owes, with the waits it has recorded. -/
def Owing (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')

variable (O : CellTallies nD τ sig (HIx 1)) (W : Waits sig (HIx 1))

variable [FloatOps F]

abbrev wpV {α : Type} (P : ProgV (F := F) L α) (Q : α → sProp 𝕄) : sProp 𝕄 :=
  wp frame (wpE (defs₀ (F := F)) 𝒱₀ (thr d L) none) Set.univ P Q

/-! ## The tokens, as a gather takes them -/

theorem tok_open (b : Fin 4) (h : Fin 2) (I : Finset (Idx (tabV.view.loc (thr d L)))) (J : Finset (Idx (lstV.view.loc (thr d L)))) :
    (tok tab IX q d L b h : sProp 𝕄) ⊣⊢ iprop(((tabV.view.loc (thr d L) ↦[I]{tokTab q b h} (tab : Buf (Elt F) (tabV.view.loc (thr d L))))
          ∗ (lstV.view.loc (thr d L) ↦[J]{tokLst b h} (list (F := F) IX (tile L) : Buf (Elt F) (lstV.view.loc (thr d L)))))
        ∗ ((tabV.view.loc (thr d L) ↦[Finset.univ \ I]{tokTab q b h} (tab : Buf (Elt F) (tabV.view.loc (thr d L))))
          ∗ (lstV.view.loc (thr d L) ↦[Finset.univ \ J]{tokLst b h} (list (F := F) IX (tile L) : Buf (Elt F) (lstV.view.loc (thr d L)))))) := by
  have h1 := pointsTo_split_subset (U := UU) (Ix := HIx 1) (Name := ℕ) (Lvl := ℕ) (ℓ := tabV.view.loc (thr d L)) (q := tokTab q b h)
    (f := (tab : Buf (Elt F) (tabV.view.loc (thr d L)))) (Finset.subset_univ I)
  have h2 := pointsTo_split_subset (U := UU) (Ix := HIx 1) (Name := ℕ) (Lvl := ℕ) (ℓ := lstV.view.loc (thr d L)) (q := tokLst b h)
    (f := (list (F := F) IX (tile L) : Buf (Elt F) (lstV.view.loc (thr d L)))) (Finset.subset_univ J)
  constructor
  · iintro ⟨Ht, Hl⟩
    ihave Ht' := h1.1 $$ Ht
    ihave Hl' := h2.1 $$ Hl
    icases Ht' with ⟨Ht, Htr⟩
    icases Hl' with ⟨Hl, Hlr⟩
    isplitl [Ht Hl]; · isplitl [Ht] <;> iassumption
    isplitl [Htr] <;> iassumption
  · iintro ⟨⟨Ht, Hl⟩, Htr, Hlr⟩
    isplitl [Ht Htr]
    · iapply h1.2; isplitl [Ht] <;> iassumption
    · iapply h2.2; isplitl [Hl] <;> iassumption

/-! ## The steps -/

/-- A gather of `n` rows into a buffer counts every row's words. -/
theorem rowsCredit (b : Fin 4) (r : Rect S200x128) (a' : Fin r.shape.rank) (hr : ∀ a, r.stride a = 1) :
    ∑ j, (((buf b).slice r hr).slice (r.shape.rowRect a' j) (r.shape.stride_rowRect a' j)).view.dmaCredit = ((buf b).slice r hr).view.dmaCredit :=
  SparseCore.sum_rowCredit_eq_dmaCredit ((buf b).slice r hr) a' (match b with
    | 0 => fun _ => rfl
    | 1 => fun _ => rfl
    | 2 => fun _ => rfl
    | 3 => fun _ => rfl)

/-- Starting a free buffer's gathers fills it. -/
theorem wp_fill (hIX : ∀ j, (IX j : BitVec 32).toNat < 100000) {α : Type} {Q : α → sProp 𝕄} {k : PUnit → ProgV (F := F) L α} (b : Fin 4) (g : ℕ)
    (oA oB : Fin 1 → ℕ) (hA : ∀ a, oA a + S104.size a ≤ S25600.size a) (hB : ∀ a, oB a + S96.size a ≤ S25600.size a)
    (eA : oA = ![200 * g]) (eB : oB = ![200 * g + 104]) :
    (Free tab IX q d L b : sProp 𝕄) ⊢ iprop((Filling tab IX q d L b g -∗ wpV d L (k ⟨⟩) Q) -∗ wpV d L (fill L b oA oB hA hB >>= k) Q) := by
  unfold Free
  iintro ⟨⟨%f, Hb⟩, HA, HB, HW, T0, T1⟩ Hk
  ihave Hb := (Entails.of_eq (buf_halves d L b fullShare f)) $$ Hb
  icases Hb with ⟨Hh, Ht⟩
  ihave T0 := (tok_open tab IX q d L b 0 tabAll.view.set (lstA oA hA).view.set).1 $$ T0
  icases T0 with ⟨⟨Ht0, Hl0⟩, R0⟩
  ihave T1 := (tok_open tab IX q d L b 1 tabAll.view.set (lstB oB hB).view.set).1 $$ T1
  icases T1 with ⟨⟨Ht1, Hl1⟩, R1⟩
  unfold fill
  rw [bind_assoc]
  iapply (SparseCore.wp_indirectGatherLocal countersEmb 𝒱₀ (thr d L) none (default : HIx 1) (headV b).view.dmaCredit
    (rowsCredit b (halfRect 0) _ _) (by decide) (lstA_in IX hIX (tile L) oA hA)) $$ [Ht0 Hh Hl0 HA]
  · isplitl [Ht0]; · iexact Ht0
    isplitl [Hh]; · iexact Hh
    isplitl [Hl0]; · iexact Hl0
    iexact HA
  iintro HfA
  iapply (SparseCore.wp_indirectGatherLocal countersEmb 𝒱₀ (thr d L) none (default : HIx 1) (tailV b).view.dmaCredit
    (rowsCredit b (halfRect 1) _ _) (by decide) (lstB_in IX hIX (tile L) oB hB)) $$ [Ht1 Ht Hl1 HB]
  · isplitl [Ht1]; · iexact Ht1
    isplitl [Ht]; · iexact Ht
    isplitl [Hl1]; · iexact Hl1
    iexact HB
  iintro HfB
  iapply Hk
  unfold Filling
  isplitl [HfA R0]
  · iapply (flight_take (c := thr d L) ?_) $$ [HfA R0]
    rotate_left
    · isplitl [HfA]; · iexact HfA
      iexact R0
    · rw [pts_of_read (c := thr d L) (headV b).view ((View.read_write_univ _ _).trans (headed tab IX d L hIX (tile L) g b oA hA eA))]
      iintro ⟨⟨Hh, Ht, Hl⟩, R⟩
      isplitl [Hh]; · iexact Hh
      iapply (tok_open tab IX q d L b 0 tabAll.view.set (lstA oA hA).view.set).2
      isplitl [Ht Hl]; · isplitl [Ht] <;> iassumption
      iexact R
  isplitl [HfB R1]
  · iapply (flight_take (c := thr d L) ?_) $$ [HfB R1]
    rotate_left
    · isplitl [HfB]; · iexact HfB
      iexact R1
    · rw [pts_of_read (c := thr d L) (tailV b).view ((View.read_write_univ _ _).trans (tailed tab IX d L hIX (tile L) g b oB hB eB))]
      iintro ⟨⟨Hh, Ht, Hl⟩, R⟩
      isplitl [Hh]; · iexact Hh
      iapply (tok_open tab IX q d L b 1 tabAll.view.set (lstB oB hB).view.set).2
      isplitl [Ht Hl]; · isplitl [Ht] <;> iassumption
      iexact R
  iexact HW

/-- Waiting for the gathers of a buffer being filled finds it filled. -/
theorem wp_arrive {α : Type} {Q : α → sProp 𝕄} {k : PUnit → ProgV (F := F) L α} (b : Fin 4) (g : ℕ) :
    iprop(Filling tab IX q d L b g ∗ Owing d L O W)
      ⊢ iprop((iprop(Filled tab IX q d L b g ∗ Owing d L O W) -∗ wpV d L (k ⟨⟩) Q) -∗ wpV d L (arrive L b >>= k) Q : sProp 𝕄) := by
  unfold Filling Owing
  iintro ⟨⟨HfA, HfB, HW⟩, #Hm, %W', %hW', HO⟩ Hk
  unfold arrive
  rw [bind_assoc]
  iapply (Transfers.wp_waitLocalO countersEmb 𝒱₀ (thr d L) none (default : HIx 1) rfl) $$ [HfA HO]
  · isplitl [HfA]; · iexact HfA
    isplitl [HO]; · iexact HO
    iapply (Transfers.MayWaits.elim (SemLoc.dma (semA b).sem)) $$ Hm
  iintro ⟨⟨Hh, T0⟩, HA, HO⟩
  iapply (Transfers.wp_waitLocalO countersEmb 𝒱₀ (thr d L) none (default : HIx 1) rfl) $$ [HfB HO]
  · isplitl [HfB]; · iexact HfB
    isplitl [HO]; · iexact HO
    iapply (Transfers.MayWaits.elim (SemLoc.dma (semB b).sem)) $$ Hm
  iintro ⟨⟨Ht, T1⟩, HB, HO⟩
  iapply Hk
  isplitr [HO]
  · unfold Filled
    isplitl [Hh Ht]
    · iapply (Entails.of_eq (buf_halves d L b fullShare _).symm)
      isplitl [Hh] <;> iassumption
    isplitl [HA]; · iexact HA
    isplitl [HB]; · iexact HB
    isplitl [HW]; · iexact HW
    isplitl [T0] <;> iassumption
  · isplitr; · iexact Hm
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp

/-- Starting one part's write-out: the batch has one more under way. -/
theorem wp_send1 {α : Type} {Q : α → sProp 𝕄} {k : PUnit → ProgV (F := F) L α} (b : Fin 4) (g : ℕ) (hg : g < 128) (r : Fin 4)
    (o : Fin 3 → ℕ) (h : ∀ a, o a + S1x50x128.size a ≤ S16384x50x128.size a) (ho : o = ![planeNo L g r, 0, 0]) :
    iprop(partPts d L b r (chunkB tab IX d L g b) ∗ planePts d L (planeNo L g r) f₀ ∗ batchW tab IX d L b g r.val 0)
      ⊢ iprop((batchW tab IX d L b g (r.val + 1) 0 -∗ wpV d L (k ⟨⟩) Q) -∗ wpV d L (send1 L b r o h >>= k) Q : sProp 𝕄) := by
  have hw := (tile L).isLt
  have hr := r.isLt
  have hs : (planeV o h).view.set = plane (planeNo L g r) := planeV_set o h ⟨planeNo L g r, by unfold planeNo; omega⟩ ho
  refine Transfers.wp_dmaBatch countersEmb 𝒱₀ (thr d L) none (src := partV b r) (dst := planeV o h) (default : HIx 1) NW rfl
    (Sd := plane (planeNo L g r)) hs.subset r.isLt (Nat.zero_le _) ?_
  unfold outgo
  iintro ⟨Hp, Hs⟩
  isplitl [Hp]
  · have e := pts_of_read (F := F) (c := thr d L) (q := fullShare) (planeV o h).view
      ((View.read_write_univ (Val := Elt F) (v := (planeV o h).view) (f₀ : Buf (Elt F) ((planeV o h).view.loc (thr d L))) _).trans
        (sent tab IX d L (tile L) g hg b r o h ho))
    rw [hs] at e
    iapply (Entails.of_eq e); iexact Hp
  · iexact Hs

/-- Starting a filled buffer's write-outs, into its chunk's planes of the result. -/
theorem wp_send {α : Type} {Q : α → sProp 𝕄} {k : PUnit → ProgV (F := F) L α} (b : Fin 4) (g : ℕ) (hg : g < 128)
    (o : Fin 4 → Fin 3 → ℕ) (h : ∀ r a, o r a + S1x50x128.size a ≤ S16384x50x128.size a) (ho : ∀ r, o r = ![planeNo L g r, 0, 0]) :
    iprop(Filled tab IX q d L b g ∗ fourPts d L g f₀)
      ⊢ iprop((Sending tab IX q d L b g -∗ wpV d L (k ⟨⟩) Q) -∗ wpV d L (send L b o h >>= k) Q : sProp 𝕄) := by
  unfold Filled fourPts bufPts
  rw [buf_parts, bigSep_four, bigSep_four]
  iintro ⟨⟨⟨Hp0, Hp1, Hp2, Hp3⟩, HA, HB, HW, T0, T1⟩, Ho0, Ho1, Ho2, Ho3⟩ Hk
  imod (Transfers.batch_alloc' countersEmb (thr d L) (default : HIx 1) NW (outgo tab IX d L b g)) $$ HW with HW
  unfold send
  simp only [bind_assoc]
  iapply (wp_send1 tab IX f₀ d L b g hg 0 (o 0) (h 0) (ho 0)) $$ [Hp0 Ho0 HW]
  · isplitl [Hp0]; · iexact Hp0
    isplitl [Ho0]; · iexact Ho0
    iexact HW
  iintro HW
  iapply (wp_send1 tab IX f₀ d L b g hg 1 (o 1) (h 1) (ho 1)) $$ [Hp1 Ho1 HW]
  · isplitl [Hp1]; · iexact Hp1
    isplitl [Ho1]; · iexact Ho1
    iexact HW
  iintro HW
  iapply (wp_send1 tab IX f₀ d L b g hg 2 (o 2) (h 2) (ho 2)) $$ [Hp2 Ho2 HW]
  · isplitl [Hp2]; · iexact Hp2
    isplitl [Ho2]; · iexact Ho2
    iexact HW
  iintro HW
  iapply (wp_send1 tab IX f₀ d L b g hg 3 (o 3) (h 3) (ho 3)) $$ [Hp3 Ho3 HW]
  · isplitl [Hp3]; · iexact Hp3
    isplitl [Ho3]; · iexact Ho3
    iexact HW
  iintro HW
  iapply Hk
  unfold Sending
  isplitl [HW]; · iexact HW
  isplitl [HA]; · iexact HA
  isplitl [HB]; · iexact HB
  isplitl [T0] <;> iassumption

/-- Waiting for one of a buffer's write-outs, but the last. -/
theorem wp_drain1 {α : Type} {Q : α → sProp 𝕄} {k : PUnit → ProgV (F := F) L α} (b : Fin 4) (g : ℕ) (r : Fin 4) (hr : r.val < 3) :
    iprop(batchW tab IX d L b g 4 (r.val * NW) ∗ Owing d L O W)
      ⊢ iprop((iprop(batchW tab IX d L b g 4 ((r.val + 1) * NW) ∗ Owing d L O W) -∗ wpV d L (k ⟨⟩) Q) -∗ wpV d L (drain1 L b r >>= k) Q : sProp 𝕄) := by
  have hN := NW_pos
  have hu : r.val * NW + NW < NW * 4 := by
    have : r.val * NW ≤ 2 * NW := Nat.mul_le_mul_right _ (by omega)
    omega
  unfold Owing
  iintro ⟨HW, #Hm, %W', %hW', HO⟩ Hk
  iapply (Transfers.wp_waitBatchO countersEmb 𝒱₀ (thr d L) none (default : HIx 1) (N := NW) rfl hu) $$ [HW HO]
  · isplitl [HW]; · iexact HW
    isplitl [HO]; · iexact HO
    iapply (Transfers.MayWaits.elim (SemLoc.dma (semW b).sem)) $$ Hm
  iintro ⟨HW, HO⟩
  iapply Hk
  isplitl [HW]; · rw [Nat.add_one_mul]; iexact HW
  isplitr; · iexact Hm
  iexists _; isplitr
  swap; · iexact HO
  ipureintro; intro p hp
  rcases Finset.mem_insert.mp hp with hp | hp; · exact .inr (hp ▸ rfl)
  exact hW' p hp

/-- Waiting for a buffer's write-outs frees it, and leaves its chunk's planes as the result has them. -/
theorem wp_drain {α : Type} {Q : α → sProp 𝕄} {k : PUnit → ProgV (F := F) L α} (b : Fin 4) (g : ℕ) :
    iprop(Sending tab IX q d L b g ∗ Owing d L O W)
      ⊢ iprop((iprop(Free tab IX q d L b ∗ fourPts d L g (result (F := F) tab IX) ∗ Owing d L O W) -∗ wpV d L (k ⟨⟩) Q)
        -∗ wpV d L (drain L b >>= k) Q : sProp 𝕄) := by
  unfold Sending
  iintro ⟨⟨HW, HA, HB, T0, T1⟩, HO⟩ Hk
  unfold drain
  simp only [bind_assoc]
  iapply (wp_drain1 tab IX d L O W b g 0 (by decide)) $$ [HW HO]
  · isplitl [HW]
    · simp only [Fin.val_zero, Nat.zero_mul]; iexact HW
    · iexact HO
  iintro ⟨HW, HO⟩
  iapply (wp_drain1 tab IX d L O W b g 1 (by decide)) $$ [HW HO]
  · isplitl [HW]; · iexact HW
    iexact HO
  iintro ⟨HW, HO⟩
  iapply (wp_drain1 tab IX d L O W b g 2 (by decide)) $$ [HW HO]
  · isplitl [HW]; · iexact HW
    iexact HO
  iintro ⟨HW, HO⟩
  unfold Owing
  icases HO with ⟨#Hm, %W', %hW', HO⟩
  iapply (Transfers.wp_waitBatchLastO countersEmb 𝒱₀ (thr d L) none (default : HIx 1) (N := NW) (D := outgo tab IX d L b g) rfl NW_pos
    (u := (2 + 1) * NW) (by omega)) $$ [HW HO]
  · isplitl [HW]; · iexact HW
    isplitl [HO]; · iexact HO
    iapply (Transfers.MayWaits.elim (SemLoc.dma (semW b).sem)) $$ Hm
  unfold outgo
  rw [bigSep_sep']
  iintro ⟨⟨Ho, Hb⟩, HW, HO⟩
  iapply Hk
  isplitl [Hb HA HB HW T0 T1]
  · unfold Free
    isplitl [Hb]
    · iexists (chunkB tab IX d L g b)
      iapply (Entails.of_eq (buf_parts d L b fullShare (chunkB tab IX d L g b)).symm)
      iexact Hb
    isplitl [HA]; · iexact HA
    isplitl [HB]; · iexact HB
    isplitl [HW]; · iexact HW
    isplitl [T0] <;> iassumption
  isplitl [Ho]; · iexact Ho
  isplitr; · iexact Hm
  iexists _; isplitr
  swap; · iexact HO
  ipureintro; intro p hp
  rcases Finset.mem_insert.mp hp with hp | hp; · exact .inr (hp ▸ rfl)
  exact hW' p hp

/-- Fetching the tile's list. -/
theorem wp_fetch {α : Type} {Q : α → sProp 𝕄} {k : PUnit → ProgV (F := F) L α} (f : Buf (Elt F) (lstV.view.loc (thr d L))) :
    iprop((idxV.view.loc (thr d L) ↦[idxSet (tile L).val]{fullShare} (IX : Buf (Elt F) (idxV.view.loc (thr d L))))
        ∗ (lstV.view.loc (thr d L) ↦{fullShare} f) ∗ semVal (thr d L, .dma cc0_scoped0.sem) 0 ∗ Owing d L O W)
      ⊢ iprop((iprop((idxV.view.loc (thr d L) ↦[idxSet (tile L).val]{fullShare} (IX : Buf (Elt F) (idxV.view.loc (thr d L))))
          ∗ lstPts IX d L fullShare ∗ semVal (thr d L, .dma cc0_scoped0.sem) 0 ∗ Owing d L O W) -∗ wpV d L (k ⟨⟩) Q)
        -∗ wpV d L (fetch L >>= k) Q : sProp 𝕄) := by
  unfold Owing
  rw [← idxRow_set]
  iintro ⟨Hi, Hl, Hs, #Hm, %W', %hW', HO⟩ Hk
  unfold fetch
  rw [bind_assoc]
  iapply (Transfers.wp_dmaLocal countersEmb 𝒱₀ (thr d L) none (src := idxRow L) (dst := lstV) (Sd := Finset.univ) (default : HIx 1) lstV.view.dmaCredit rfl
    (View.dmaCredit_pos _ (by decide)) (Finset.subset_univ _)) $$ [Hi Hl Hs]
  · isplitl [Hi]; · iexact Hi
    isplitl [Hl] <;> iassumption
  iintro Hf
  iapply (Transfers.wp_waitLocalO countersEmb 𝒱₀ (thr d L) none (default : HIx 1) rfl) $$ [Hf HO]
  · isplitl [Hf]; · iexact Hf
    isplitl [HO]; · iexact HO
    iapply (Transfers.MayWaits.elim (SemLoc.dma cc0_scoped0.sem)) $$ Hm
  iintro ⟨⟨Hl, Hi⟩, Hs, HO⟩
  iapply Hk
  isplitl [Hi]; · iexact Hi
  isplitl [Hl]
  · rw [show (View.write (Elt F) lstV.view f ((idxRow L).view.read (Elt F) (IX : Buf (Elt F) ((idxRow L).view.loc (thr d L)))) Finset.univ)
      = (list (F := F) IX (tile L) : Buf (Elt F) (lstV.view.loc (thr d L))) from
        (View.write_whole_univ _ _ _).trans (fetched IX L)]
    iexact Hl
  isplitl [Hs]; · iexact Hs
  isplitr; · iexact Hm
  iexists _; isplitr
  swap; · iexact HO
  ipureintro; intro p hp
  rcases Finset.mem_insert.mp hp with hp | hp; · exact .inr (hp ▸ rfl)
  exact hW' p hp

end Cert.Proof.Emb

end
-- ==== Proof.Tile.lean ====
/-
  A tile's whole run: the list fetched, 128 chunks taken through the four buffers two ahead, every chunk's four planes
  of the result as they should be at the end.
-/
module

public import proofs.«01_k».proof.Proof.Steps

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : S100000x128.Idx → Elt F .f32) (IX : S32x25600.Idx → Elt F .i32) (f₀ : S16384x50x128.Idx → Elt F .f32)
variable (q : PosShare TreeShare) (d : Dev nD) (L : grid0.Coords)

/-! ## The result's planes, chunk by chunk -/

/-- The planes of the chunks from `g` on, as they were, -/
def todo (g : ℕ) : sProp 𝕄 := bigSep (Finset.Ico g 128) fun g' => fourPts d L g' f₀
/-- and those of the chunks before `g`, done. -/
def done (g : ℕ) : sProp 𝕄 := bigSep (Finset.range g) fun g' => fourPts d L g' (result (F := F) tab IX)

theorem todo_next {g : ℕ} (hg : g < 128) : (todo f₀ d L g : sProp 𝕄) = iprop(fourPts d L g f₀ ∗ todo f₀ d L (g + 1)) := by
  unfold todo
  rw [← Finset.insert_Ico_add_one_left_eq_Ico hg, SparseCore.bigSep_insert' (by simp)]
theorem done_next (g : ℕ) : (done tab IX d L (g + 1) : sProp 𝕄) = iprop(fourPts d L g (result (F := F) tab IX) ∗ done tab IX d L g) := by
  unfold done
  rw [Finset.range_add_one, SparseCore.bigSep_insert' (by simp)]
theorem done_zero : (done tab IX d L 0 : sProp 𝕄) = iprop(emp) := by
  unfold done; rw [Finset.range_zero]; exact bigSep_empty

/-! ## The shares the gathers read with -/

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

abbrev toks (b : Fin 4) : sProp 𝕄 := iprop(tok tab IX q d L b 0 ∗ tok tab IX q d L b 1)

theorem toks_split :
    (iprop(tabPts tab d L q ∗ lstPts IX d L fullShare) : sProp 𝕄)
      ⊣⊢ iprop((tabPts tab d L (Transfers.shareDrop q 8) ∗ lstPts IX d L (Transfers.shareDrop fullShare 8))
        ∗ toks tab IX q d L 0 ∗ toks tab IX q d L 1 ∗ toks tab IX q d L 2 ∗ toks tab IX q d L 3) := by
  have h1 := Transfers.pointsTo_toks (U := UU) (Ix := HIx 1) (Name := ℕ) (Lvl := ℕ) (ℓ := tabV.view.loc (thr d L)) (S := Finset.univ)
    (f := (tab : Buf (Elt F) (tabV.view.loc (thr d L)))) q 8
  have h2 := Transfers.pointsTo_toks (U := UU) (Ix := HIx 1) (Name := ℕ) (Lvl := ℕ) (ℓ := lstV.view.loc (thr d L)) (S := Finset.univ)
    (f := (list (F := F) IX (tile L) : Buf (Elt F) (lstV.view.loc (thr d L)))) fullShare 8
  rw [bigSep_eight] at h1 h2
  constructor
  · iintro ⟨Ht, Hl⟩
    ihave Ht := h1.1 $$ Ht
    ihave Hl := h2.1 $$ Hl
    icases Ht with ⟨Ht, T0, T1, T2, T3, T4, T5, T6, T7⟩
    icases Hl with ⟨Hl, L0, L1, L2, L3, L4, L5, L6, L7⟩
    isplitl [Ht Hl]; · isplitl [Ht] <;> iassumption
    isplitl [T0 L0 T1 L1]
    · isplitl [T0 L0]
      · isplitl [T0]; · iexact T0
        iexact L0
      · isplitl [T1]; · iexact T1
        iexact L1
    isplitl [T2 L2 T3 L3]
    · isplitl [T2 L2]
      · isplitl [T2]; · iexact T2
        iexact L2
      · isplitl [T3]; · iexact T3
        iexact L3
    isplitl [T4 L4 T5 L5]
    · isplitl [T4 L4]
      · isplitl [T4]; · iexact T4
        iexact L4
      · isplitl [T5]; · iexact T5
        iexact L5
    isplitl [T6 L6]
    · isplitl [T6]; · iexact T6
      iexact L6
    · isplitl [T7]; · iexact T7
      iexact L7
  · iintro ⟨⟨Ht, Hl⟩, ⟨⟨T0, L0⟩, ⟨T1, L1⟩⟩, ⟨⟨T2, L2⟩, ⟨T3, L3⟩⟩, ⟨⟨T4, L4⟩, ⟨T5, L5⟩⟩, ⟨⟨T6, L6⟩, ⟨T7, L7⟩⟩⟩
    isplitl [Ht T0 T1 T2 T3 T4 T5 T6 T7]
    · iapply h1.2
      isplitl [Ht]; · iexact Ht
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    · iapply h2.2
      isplitl [Hl]; · iexact Hl
      isplitl [L0]; · iexact L0
      isplitl [L1]; · iexact L1
      isplitl [L2]; · iexact L2
      isplitl [L3]; · iexact L3
      isplitl [L4]; · iexact L4
      isplitl [L5]; · iexact L5
      isplitl [L6]; · iexact L6
      iexact L7

/-- A buffer and its semaphores, nothing under way. -/
def Idle (b : Fin 4) : sProp 𝕄 := iprop((∃ f, bufPts d L b f) ∗ zeroA d L b ∗ zeroB d L b ∗ zeroW d L b)

theorem free_iff (b : Fin 4) : (Free tab IX q d L b : sProp 𝕄) ⊣⊢ iprop(Idle d L b ∗ toks tab IX q d L b) := by
  unfold Free Idle
  constructor
  · iintro ⟨Hb, HA, HB, HW, HT⟩
    isplitr [HT]
    · isplitl [Hb]; · iexact Hb
      isplitl [HA]; · iexact HA
      isplitl [HB] <;> iassumption
    · iexact HT
  · iintro ⟨⟨Hb, HA, HB, HW⟩, HT⟩
    isplitl [Hb]; · iexact Hb
    isplitl [HA]; · iexact HA
    isplitl [HB]; · iexact HB
    isplitl [HW] <;> iassumption

/-! ## A round -/

variable (O : CellTallies nD τ sig (HIx 1)) (W : Waits sig (HIx 1))
variable [FloatOps F]

theorem wpV_pure {α : Type} {Q : α → sProp 𝕄} {a : α} : Q a ⊢ wpV d L (Pure.pure a : ProgV (F := F) L α) Q := by
  rw [show wpV d L (Pure.pure a : ProgV (F := F) L α) Q = iprop(|={Set.univ}[frame]=> Q a) from rfl]
  iintro H
  imodintro
  iexact H

/-- A buffer's chunk, come in, goes out. -/
theorem wp_through {α : Type} {Q : α → sProp 𝕄} {k : PUnit → ProgV (F := F) L α} (b : Fin 4) (g : ℕ) (hg : g < 128)
    (o : Fin 4 → Fin 3 → ℕ) (h : ∀ r a, o r a + S1x50x128.size a ≤ S16384x50x128.size a) (ho : ∀ r, o r = ![planeNo L g r, 0, 0]) :
    iprop(Filling tab IX q d L b g ∗ todo f₀ d L g ∗ Owing d L O W)
      ⊢ iprop((iprop(Sending tab IX q d L b g ∗ todo f₀ d L (g + 1) ∗ Owing d L O W) -∗ wpV d L (k ⟨⟩) Q)
        -∗ wpV d L (arrive L b >>= fun _ => send L b o h >>= k) Q : sProp 𝕄) := by
  rw [todo_next f₀ d L hg]
  iintro ⟨HF, ⟨H4, Htodo⟩, HO⟩ Hk
  iapply (wp_arrive tab IX q d L O W b g) $$ [HF HO]
  · isplitl [HF] <;> iassumption
  iintro ⟨HF, HO⟩
  iapply (wp_send tab IX f₀ q d L b g hg o h ho) $$ [HF H4]
  · isplitl [HF] <;> iassumption
  iintro HS
  iapply Hk
  isplitl [HS]; · iexact HS
  isplitl [Htodo] <;> iassumption

/-- Waiting for the write-outs of a buffer's chunk, the oldest not yet done. -/
theorem wp_finish {α : Type} {Q : α → sProp 𝕄} {k : PUnit → ProgV (F := F) L α} (b : Fin 4) (g : ℕ) :
    iprop(Sending tab IX q d L b g ∗ done tab IX d L g ∗ Owing d L O W)
      ⊢ iprop((iprop(Free tab IX q d L b ∗ done tab IX d L (g + 1) ∗ Owing d L O W) -∗ wpV d L (k ⟨⟩) Q)
        -∗ wpV d L (drain L b >>= k) Q : sProp 𝕄) := by
  rw [done_next tab IX d L g]
  iintro ⟨HS, Hd, HO⟩ Hk
  iapply (wp_drain tab IX q d L O W b g) $$ [HS HO]
  · isplitl [HS] <;> iassumption
  iintro ⟨HF, H4, HO⟩
  iapply Hk
  isplitl [HF]; · iexact HF
  isplitr [HO]
  · isplitl [H4] <;> iassumption
  · iexact HO

theorem trips_eq : k0_t1_loop.trips = 30 := by decide

theorem loopOff_eq (t : Fin k0_t1_loop.trips) (b r : Fin 4) : loopOff L t b r = ![planeNo L (4 * t.val + b.val + 2 + 2) r, 0, 0] := by
  unfold loopOff planeNo tile
  rw [k0_off3_eq]
  congr 1
  simp only
  omega

/-- A round of the loop: buffer `b`'s chunk goes out, and buffer `b'`'s next comes in. -/
theorem wp_round (hIX : ∀ j, (IX j : BitVec 32).toNat < 100000) {α : Type} {Q : α → sProp 𝕄} {k : PUnit → ProgV (F := F) L α}
    (t : Fin k0_t1_loop.trips) (b b' : Fin 4) (g : ℕ) (hg : g = 4 * t.val + b.val + 2) :
    iprop(Filling tab IX q d L b (g + 2) ∗ Sending tab IX q d L b' g ∗ todo f₀ d L (g + 2) ∗ done tab IX d L g ∗ Owing d L O W)
      ⊢ iprop((iprop(Sending tab IX q d L b (g + 2) ∗ Filling tab IX q d L b' (g + 4) ∗ todo f₀ d L (g + 3) ∗ done tab IX d L (g + 1) ∗ Owing d L O W)
          -∗ wpV d L (k ⟨⟩) Q)
        -∗ wpV d L (round L t b b' >>= k) Q : sProp 𝕄) := by
  have ht : t.val < 30 := trips_eq ▸ t.isLt
  have hb := b.isLt
  iintro ⟨HF, HS, Htodo, Hdone, HO⟩ Hk
  unfold round
  simp only [bind_assoc]
  iapply (wp_through tab IX f₀ q d L O W b (g + 2) (by omega) (loopOff L t b) (loopOff_inb L t b) (fun r => hg ▸ loopOff_eq L t b r)) $$ [HF Htodo HO]
  · isplitl [HF]; · iexact HF
    isplitl [Htodo] <;> iassumption
  iintro ⟨HF, Htodo, HO⟩
  iapply (wp_finish tab IX q d L O W b' g) $$ [HS Hdone HO]
  · isplitl [HS]; · iexact HS
    isplitl [Hdone] <;> iassumption
  iintro ⟨HS, Hdone, HO⟩
  iapply (wp_fill tab IX q d L hIX b' (g + 4) (loopA t b) (loopB t b) (k0_off4_inb t b) (k0_off5_inb t b)
    ((k0_off4_eq t b).trans (by congr 1; omega)) ((k0_off5_eq t b).trans (by congr 1; omega))) $$ HS
  iintro HS
  iapply Hk
  isplitl [HF]; · iexact HF
  isplitl [HS]; · iexact HS
  isplitl [Htodo]; · iexact Htodo
  isplitl [Hdone] <;> iassumption

/-- Before trip `n` of the loop: two chunks coming in, two going out. -/
def Mid (n : ℕ) : sProp 𝕄 :=
  iprop(Filling tab IX q d L 0 (4 * n + 4) ∗ Filling tab IX q d L 1 (4 * n + 5) ∗ Sending tab IX q d L 2 (4 * n + 2) ∗ Sending tab IX q d L 3 (4 * n + 3)
    ∗ todo f₀ d L (4 * n + 4) ∗ done tab IX d L (4 * n + 2) ∗ Owing d L O W)

theorem wp_trip (hIX : ∀ j, (IX j : BitVec 32).toNat < 100000) (t : Fin k0_t1_loop.trips) :
    (Mid tab IX f₀ q d L O W t.val : sProp 𝕄) ⊢ wpV d L (trip L t) (fun _ => Mid tab IX f₀ q d L O W (t.val + 1)) := by
  rw [← bind_pure (trip L t)]
  unfold Mid trip
  simp only [bind_assoc]
  iintro ⟨F0, F1, S2, S3, Htodo, Hdone, HO⟩
  iapply (wp_round tab IX f₀ q d L O W hIX t 0 2 (4 * t.val + 2) rfl) $$ [F0 S2 Htodo Hdone HO]
  · isplitl [F0]; · iexact F0
    isplitl [S2]; · iexact S2
    isplitl [Htodo]; · iexact Htodo
    isplitl [Hdone] <;> iassumption
  iintro ⟨S0, F2, Htodo, Hdone, HO⟩
  iapply (wp_round tab IX f₀ q d L O W hIX t 1 3 (4 * t.val + 3) rfl) $$ [F1 S3 Htodo Hdone HO]
  · isplitl [F1]; · iexact F1
    isplitl [S3]; · iexact S3
    isplitl [Htodo]; · iexact Htodo
    isplitl [Hdone] <;> iassumption
  iintro ⟨S1, F3, Htodo, Hdone, HO⟩
  iapply (wp_round tab IX f₀ q d L O W hIX t 2 0 (4 * t.val + 4) rfl) $$ [F2 S0 Htodo Hdone HO]
  · isplitl [F2]; · iexact F2
    isplitl [S0]; · iexact S0
    isplitl [Htodo]; · iexact Htodo
    isplitl [Hdone] <;> iassumption
  iintro ⟨S2, F0, Htodo, Hdone, HO⟩
  iapply (wp_round tab IX f₀ q d L O W hIX t 3 1 (4 * t.val + 5) rfl) $$ [F3 S1 Htodo Hdone HO]
  · isplitl [F3]; · iexact F3
    isplitl [S1]; · iexact S1
    isplitl [Htodo]; · iexact Htodo
    isplitl [Hdone] <;> iassumption
  iintro ⟨S3, F1, Htodo, Hdone, HO⟩
  iapply (wpV_pure (F := F) d L)
  rw [show 4 * (t.val + 1) = 4 * t.val + 4 by omega]
  isplitl [F0]; · iexact F0
  isplitl [F1]; · iexact F1
  isplitl [S2]; · iexact S2
  isplitl [S3]; · iexact S3
  isplitl [Htodo]; · iexact Htodo
  isplitl [Hdone] <;> iassumption

theorem wp_loop (hIX : ∀ j, (IX j : BitVec 32).toNat < 100000) {α : Type} {Q : α → sProp 𝕄} {k : PUnit → ProgV (F := F) L α} :
    (Mid tab IX f₀ q d L O W 0 : sProp 𝕄) ⊢ iprop((Mid tab IX f₀ q d L O W 30 -∗ wpV d L (k ⟨⟩) Q)
      -∗ wpV d L ((Scf.Loop.for k0_t1_loop k0_t1_ok ⟨⟩ fun t _ => trip L t) >>= k) Q) := by
  iintro H Hk
  iapply (Scf.wp_for_bind frame (wpE (defs₀ (F := F)) 𝒱₀ (thr d L) none) Set.univ _ _ _ k0_t1_ok (⟨⟩ : PUnit) (fun t _ => trip (F := F) L t)
    (fun n _ => Mid tab IX f₀ q d L O W n) (fun t _ => wp_trip tab IX f₀ q d L O W hIX t)) $$ H
  iintro %acc H
  iapply Hk
  iapply (Entails.of_eq (show (Mid tab IX f₀ q d L O W k0_t1_loop.trips : sProp 𝕄) = Mid tab IX f₀ q d L O W 30 by rw [trips_eq]))
  iexact H

/-! ## The whole run -/

theorem wp_before (hIX : ∀ j, (IX j : BitVec 32).toNat < 100000) {α : Type} {Q : α → sProp 𝕄} {k : PUnit → ProgV (F := F) L α}
    (f : Buf (Elt F) (lstV.view.loc (thr d L))) :
    iprop((idxV.view.loc (thr d L) ↦[idxSet (tile L).val]{fullShare} (IX : Buf (Elt F) (idxV.view.loc (thr d L))))
        ∗ tabPts tab d L q ∗ todo f₀ d L 0 ∗ (lstV.view.loc (thr d L) ↦{fullShare} f) ∗ semVal (thr d L, .dma cc0_scoped0.sem) 0
        ∗ (Idle d L 0 ∗ Idle d L 1 ∗ Idle d L 2 ∗ Idle d L 3) ∗ Owing d L O W)
      ⊢ iprop((iprop((idxV.view.loc (thr d L) ↦[idxSet (tile L).val]{fullShare} (IX : Buf (Elt F) (idxV.view.loc (thr d L))))
          ∗ semVal (thr d L, .dma cc0_scoped0.sem) 0
          ∗ (tabPts tab d L (Transfers.shareDrop q 8) ∗ lstPts IX d L (Transfers.shareDrop fullShare 8))
          ∗ Mid tab IX f₀ q d L O W 0) -∗ wpV d L (k ⟨⟩) Q) -∗ wpV d L (before L >>= k) Q : sProp 𝕄) := by
  iintro ⟨Hi, Ht, Htodo, Hl, Hs, ⟨I0, I1, I2, I3⟩, HO⟩ Hk
  unfold before
  simp only [bind_assoc]
  iapply (wp_fetch IX d L O W f) $$ [Hi Hl Hs HO]
  · isplitl [Hi]; · iexact Hi
    isplitl [Hl]; · iexact Hl
    isplitl [Hs] <;> iassumption
  iintro ⟨Hi, Hl, Hs, HO⟩
  ihave HT := (toks_split tab IX q d L).1 $$ [Ht Hl]
  · isplitl [Ht] <;> iassumption
  icases HT with ⟨Hrest, T0, T1, T2, T3⟩
  ihave B0 := (free_iff tab IX q d L 0).2 $$ [I0 T0]; · isplitl [I0] <;> iassumption
  ihave B1 := (free_iff tab IX q d L 1).2 $$ [I1 T1]; · isplitl [I1] <;> iassumption
  ihave B2 := (free_iff tab IX q d L 2).2 $$ [I2 T2]; · isplitl [I2] <;> iassumption
  ihave B3 := (free_iff tab IX q d L 3).2 $$ [I3 T3]; · isplitl [I3] <;> iassumption
  iapply (wp_fill tab IX q d L hIX 0 0 ![0] ![104] inb_S25600_S104_0 inb_S25600_S96_104 rfl rfl) $$ B0
  iintro B0
  iapply (wp_fill tab IX q d L hIX 1 1 ![200] ![304] inb_S25600_S104_200 inb_S25600_S96_304 rfl rfl) $$ B1
  iintro B1
  iapply (wp_through tab IX f₀ q d L O W 0 0 (by omega) (edgeOff L 0) (edgeOff_inb L 0) (edgeOff_eq L 0)) $$ [B0 Htodo HO]
  · isplitl [B0]; · iexact B0
    isplitl [Htodo] <;> iassumption
  iintro ⟨B0, Htodo, HO⟩
  iapply (wp_fill tab IX q d L hIX 2 2 ![400] ![504] inb_S25600_S104_400 inb_S25600_S96_504 rfl rfl) $$ B2
  iintro B2
  iapply (wp_through tab IX f₀ q d L O W 1 1 (by omega) (edgeOff L 1) (edgeOff_inb L 1) (edgeOff_eq L 1)) $$ [B1 Htodo HO]
  · isplitl [B1]; · iexact B1
    isplitl [Htodo] <;> iassumption
  iintro ⟨B1, Htodo, HO⟩
  iapply (wp_fill tab IX q d L hIX 3 3 ![600] ![704] inb_S25600_S104_600 inb_S25600_S96_704 rfl rfl) $$ B3
  iintro B3
  iapply (wp_through tab IX f₀ q d L O W 2 2 (by omega) (edgeOff L 2) (edgeOff_inb L 2) (edgeOff_eq L 2)) $$ [B2 Htodo HO]
  · isplitl [B2]; · iexact B2
    isplitl [Htodo] <;> iassumption
  iintro ⟨B2, Htodo, HO⟩
  iapply (wp_finish tab IX q d L O W 0 0) $$ [B0 HO]
  · isplitl [B0]; · iexact B0
    isplitr [HO]
    · rw [done_zero]; iempintro
    · iexact HO
  iintro ⟨B0, Hdone, HO⟩
  iapply (wp_fill tab IX q d L hIX 0 4 ![800] ![904] inb_S25600_S104_800 inb_S25600_S96_904 rfl rfl) $$ B0
  iintro B0
  iapply (wp_through tab IX f₀ q d L O W 3 3 (by omega) (edgeOff L 3) (edgeOff_inb L 3) (edgeOff_eq L 3)) $$ [B3 Htodo HO]
  · isplitl [B3]; · iexact B3
    isplitl [Htodo] <;> iassumption
  iintro ⟨B3, Htodo, HO⟩
  iapply (wp_finish tab IX q d L O W 1 1) $$ [B1 Hdone HO]
  · isplitl [B1]; · iexact B1
    isplitl [Hdone] <;> iassumption
  iintro ⟨B1, Hdone, HO⟩
  iapply (wp_fill tab IX q d L hIX 1 5 ![1000] ![1104] inb_S25600_S104_1000 inb_S25600_S96_1104 rfl rfl) $$ B1
  iintro B1
  iapply Hk
  isplitl [Hi]; · iexact Hi
  isplitl [Hs]; · iexact Hs
  isplitl [Hrest]; · iexact Hrest
  unfold Mid
  isplitl [B0]; · iexact B0
  isplitl [B1]; · iexact B1
  isplitl [B2]; · iexact B2
  isplitl [B3]; · iexact B3
  isplitl [Htodo]; · iexact Htodo
  isplitl [Hdone] <;> iassumption

theorem wp_after (hIX : ∀ j, (IX j : BitVec 32).toNat < 100000) :
    (Mid tab IX f₀ q d L O W 30 : sProp 𝕄) ⊢ wpV d L (after L) fun _ =>
      iprop((Free tab IX q d L 0 ∗ Free tab IX q d L 1 ∗ Free tab IX q d L 2 ∗ Free tab IX q d L 3) ∗ done tab IX d L 128 ∗ Owing d L O W) := by
  rw [← bind_pure (after L)]
  unfold Mid after
  simp only [bind_assoc]
  iintro ⟨B0, B1, B2, B3, Htodo, Hdone, HO⟩
  iapply (wp_through tab IX f₀ q d L O W 0 124 (by omega) (edgeOff L 4) (edgeOff_inb L 4) (edgeOff_eq L 4)) $$ [B0 Htodo HO]
  · isplitl [B0]; · iexact B0
    isplitl [Htodo] <;> iassumption
  iintro ⟨B0, Htodo, HO⟩
  iapply (wp_finish tab IX q d L O W 2 122) $$ [B2 Hdone HO]
  · isplitl [B2]; · iexact B2
    isplitl [Hdone] <;> iassumption
  iintro ⟨B2, Hdone, HO⟩
  iapply (wp_fill tab IX q d L hIX 2 126 ![25200] ![25304] inb_S25600_S104_25200 inb_S25600_S96_25304 rfl rfl) $$ B2
  iintro B2
  iapply (wp_through tab IX f₀ q d L O W 1 125 (by omega) (edgeOff L 5) (edgeOff_inb L 5) (edgeOff_eq L 5)) $$ [B1 Htodo HO]
  · isplitl [B1]; · iexact B1
    isplitl [Htodo] <;> iassumption
  iintro ⟨B1, Htodo, HO⟩
  iapply (wp_finish tab IX q d L O W 3 123) $$ [B3 Hdone HO]
  · isplitl [B3]; · iexact B3
    isplitl [Hdone] <;> iassumption
  iintro ⟨B3, Hdone, HO⟩
  iapply (wp_fill tab IX q d L hIX 3 127 ![25400] ![25504] inb_S25600_S104_25400 inb_S25600_S96_25504 rfl rfl) $$ B3
  iintro B3
  iapply (wp_through tab IX f₀ q d L O W 2 126 (by omega) (edgeOff L 6) (edgeOff_inb L 6) (edgeOff_eq L 6)) $$ [B2 Htodo HO]
  · isplitl [B2]; · iexact B2
    isplitl [Htodo] <;> iassumption
  iintro ⟨B2, Htodo, HO⟩
  iapply (wp_finish tab IX q d L O W 0 124) $$ [B0 Hdone HO]
  · isplitl [B0]; · iexact B0
    isplitl [Hdone] <;> iassumption
  iintro ⟨B0, Hdone, HO⟩
  iapply (wp_through tab IX f₀ q d L O W 3 127 (by omega) (edgeOff L 7) (edgeOff_inb L 7) (edgeOff_eq L 7)) $$ [B3 Htodo HO]
  · isplitl [B3]; · iexact B3
    isplitl [Htodo] <;> iassumption
  iintro ⟨B3, -, HO⟩
  iapply (wp_finish tab IX q d L O W 1 125) $$ [B1 Hdone HO]
  · isplitl [B1]; · iexact B1
    isplitl [Hdone] <;> iassumption
  iintro ⟨B1, Hdone, HO⟩
  iapply (wp_finish tab IX q d L O W 2 126) $$ [B2 Hdone HO]
  · isplitl [B2]; · iexact B2
    isplitl [Hdone] <;> iassumption
  iintro ⟨B2, Hdone, HO⟩
  iapply (wp_finish tab IX q d L O W 3 127) $$ [B3 Hdone HO]
  · isplitl [B3]; · iexact B3
    isplitl [Hdone] <;> iassumption
  iintro ⟨B3, Hdone, HO⟩
  iapply (wpV_pure (F := F) d L)
  isplitl [B0 B1 B2 B3]
  · isplitl [B0]; · iexact B0
    isplitl [B1]; · iexact B1
    isplitl [B2] <;> iassumption
  isplitl [Hdone] <;> iassumption

/-- A tile's run, from its row of the index array, its share of the table and its planes of the result, with its
    buffers and semaphores at rest, back to the same with the planes done. -/
theorem wp_whole (hIX : ∀ j, (IX j : BitVec 32).toNat < 100000) :
    iprop((idxV.view.loc (thr d L) ↦[idxSet (tile L).val]{fullShare} (IX : Buf (Elt F) (idxV.view.loc (thr d L))))
        ∗ tabPts tab d L q ∗ todo f₀ d L 0 ∗ (∃ f, lstV.view.loc (thr d L) ↦{fullShare} f) ∗ semVal (thr d L, .dma cc0_scoped0.sem) 0
        ∗ (Idle d L 0 ∗ Idle d L 1 ∗ Idle d L 2 ∗ Idle d L 3) ∗ Owing d L O W)
      ⊢ wpV d L (whole L) fun _ =>
        iprop((idxV.view.loc (thr d L) ↦[idxSet (tile L).val]{fullShare} (IX : Buf (Elt F) (idxV.view.loc (thr d L))))
        ∗ tabPts tab d L q ∗ done tab IX d L 128 ∗ (∃ f, lstV.view.loc (thr d L) ↦{fullShare} f) ∗ semVal (thr d L, .dma cc0_scoped0.sem) 0
        ∗ (Idle d L 0 ∗ Idle d L 1 ∗ Idle d L 2 ∗ Idle d L 3) ∗ Owing d L O W : sProp 𝕄) := by
  iintro ⟨Hi, Ht, Htodo, ⟨%f, Hl⟩, Hs, HI, HO⟩
  unfold whole
  iapply (wp_before tab IX f₀ q d L O W hIX f) $$ [Hi Ht Htodo Hl Hs HI HO]
  · isplitl [Hi]; · iexact Hi
    isplitl [Ht]; · iexact Ht
    isplitl [Htodo]; · iexact Htodo
    isplitl [Hl]; · iexact Hl
    isplitl [Hs]; · iexact Hs
    isplitl [HI] <;> iassumption
  iintro ⟨Hi, Hs, Hrest, HM⟩
  iapply (wp_loop tab IX f₀ q d L O W hIX) $$ HM
  iintro HM
  iapply (wp_wand_r (M := 𝕄) frame (wpE (defs₀ (F := F)) 𝒱₀ (thr d L) none) Set.univ)
  isplitl [HM]; · iapply (wp_after tab IX f₀ q d L O W hIX); iexact HM
  iintro %_ ⟨⟨B0, B1, B2, B3⟩, Hdone, HO⟩
  ihave B0 := (free_iff tab IX q d L 0).1 $$ B0
  ihave B1 := (free_iff tab IX q d L 1).1 $$ B1
  ihave B2 := (free_iff tab IX q d L 2).1 $$ B2
  ihave B3 := (free_iff tab IX q d L 3).1 $$ B3
  icases B0 with ⟨I0, T0⟩
  icases B1 with ⟨I1, T1⟩
  icases B2 with ⟨I2, T2⟩
  icases B3 with ⟨I3, T3⟩
  ihave HT := (toks_split tab IX q d L).2 $$ [Hrest T0 T1 T2 T3]
  · isplitl [Hrest]; · iexact Hrest
    isplitl [T0]; · iexact T0
    isplitl [T1]; · iexact T1
    isplitl [T2] <;> iassumption
  icases HT with ⟨Ht, Hl⟩
  isplitl [Hi]; · iexact Hi
  isplitl [Ht]; · iexact Ht
  isplitl [Hdone]; · iexact Hdone
  isplitl [Hl]; · iexists _; iexact Hl
  isplitl [Hs]; · iexact Hs
  isplitr [HO]
  · isplitl [I0]; · iexact I0
    isplitl [I1]; · iexact I1
    isplitl [I2] <;> iassumption
  · iexact HO

/-! ## The subcore's own buffers and semaphores -/

/-- A family of distinct members taken out of a set. -/
theorem bigSep_family {ι α : Type} [Fintype ι] [DecidableEq α] {e : ι → α} (he : Function.Injective e) {S : Finset α} (hS : ∀ i, e i ∈ S) (Φ : α → sProp 𝕄) :
    ∃ R : sProp 𝕄, bigSep S Φ = iprop(bigSep Finset.univ (fun i => Φ (e i)) ∗ R) :=
  ⟨bigSep (S \ Finset.univ.map ⟨e, he⟩) Φ, by
    rw [bigSep_sdiff_split (t := Finset.univ.map ⟨e, he⟩) (fun a ha => by
      obtain ⟨i, -, rfl⟩ := Finset.mem_map.mp ha; exact hS i), bigSep_map]
    rfl⟩

def ownSem : Unit ⊕ (Fin 4 × Fin 3) → SemLoc sig
  | .inl _ => .dma cc0_scoped0.sem
  | .inr (b, 0) => .dma (semA b).sem
  | .inr (b, 1) => .dma (semB b).sem
  | .inr (b, 2) => .dma (semW b).sem

theorem ownSem_injective : Function.Injective ownSem := by decide
theorem ownSem_scoped : ∀ x, (ownSem x).isScoped .scVector = true := by decide

def ownRef : Unit ⊕ Fin 4 → Ref sig .scVector
  | .inl _ => cc0_scratch0
  | .inr 0 => cc0_scratch1
  | .inr 1 => cc0_scratch2
  | .inr 2 => cc0_scratch3
  | .inr 3 => cc0_scratch4

theorem ownRef_injective : Function.Injective ownRef := by decide
theorem ownRef_owner (c : Fin τ.nSC) (s : Fin τ.nSub) : ∀ x, ((Proc.scVector c s).devRef (ownRef x)).owner = .proc (.scVector c s) := by
  rintro (_ | b)
  · rfl
  · fin_cases b <;> rfl

theorem ownSems_take : ∃ R : sProp 𝕄, (ownSems0 (thr d L) : sProp 𝕄)
    = iprop((semVal (thr d L, .dma cc0_scoped0.sem) 0 ∗ bigSep Finset.univ fun b => iprop(zeroA d L b ∗ zeroB d L b ∗ zeroW d L b)) ∗ R) := by
  obtain ⟨R, hR⟩ := bigSep_family (F := F) (e := fun x => ((thr d L, ownSem x) : GSem nD τ sig)) (fun x y h => ownSem_injective (Prod.mk.inj h).2)
    (S := ownCells (thr d L)) (fun x => mem_ownCells.mpr ⟨rfl, ownSem_scoped x⟩) (fun g => semVal g 0)
  refine ⟨R, ?_⟩
  unfold SparseCore.Cfg.ownSems0
  rw [hR, bigSep_univ_sum, bigSep_univ_prod, bigSep_univ_of_subsingleton ()]
  congr 3
  funext b
  rw [show (Finset.univ : Finset (Fin 3)) = {0, 1, 2} by decide, SparseCore.bigSep_insert' (by decide), SparseCore.bigSep_insert' (by decide), bigSep_singleton]
  rfl

theorem ownBuf_pts (b : Fin 4) :
    (iprop(∃ f, ((d, (Proc.scVector (cV L) (jV L)).devRef (ownRef (.inr b))) : Loc nD τ sig) ↦{fullShare} f) : sProp 𝕄) = iprop(∃ f, bufPts d L b f) := by
  have e : ((d, (Proc.scVector (cV L) (jV L)).devRef (ownRef (.inr b))) : Loc nD τ sig) = (buf b).view.loc (thr d L) := by
    match b with
    | 0 => rfl
    | 1 => rfl
    | 2 => rfl
    | 3 => rfl
  have hu : (buf b).view.set = Finset.univ := by
    match b with
    | 0 => exact View.set_whole _
    | 1 => exact View.set_whole _
    | 2 => exact View.set_whole _
    | 3 => exact View.set_whole _
  unfold bufPts
  rw [e, hu]

theorem ownBufs_take : ∃ R : sProp 𝕄, (ownBufs (thr d L) : sProp 𝕄)
    = iprop(((∃ f, lstV.view.loc (thr d L) ↦{fullShare} f) ∗ bigSep Finset.univ fun b => iprop(∃ f, bufPts d L b f)) ∗ R) := by
  obtain ⟨R, hR⟩ := bigSep_family (F := F) (e := fun x => (Proc.scVector (cV L) (jV L)).devRef (ownRef x)) (fun x y h => ownRef_injective (Proc.devRef_injective _ h))
    (S := ownRefs (.scVector (cV L) (jV L))) (fun x => SparseCore.Cfg.mem_ownRefs_of_owner (ownRef_owner _ _ x))
    (fun b => iprop(∃ f, ((d, b) : Loc nD τ sig) ↦{fullShare} f))
  rw [bigSep_univ_sum, bigSep_univ_of_subsingleton (), bigSep_congr (fun b _ => ownBuf_pts (F := F) d L b)] at hR
  exact ⟨R, hR⟩

/-- A tile's task, with the subcore's own buffers and semaphores. -/
theorem tile_body (hIX : ∀ j, (IX j : BitVec 32).toNat < 100000) (hF : (K (F := F)).Facts) (hO : ∀ g, O g none = 0) :
    iprop(levAts (K (F := F)).L (K (F := F)).lev ∗ emp
        ∗ ((idxV.view.loc (thr d L) ↦[idxSet (tile L).val]{fullShare} (IX : Buf (Elt F) (idxV.view.loc (thr d L))))
          ∗ tabPts tab d L q ∗ todo f₀ d L 0)
        ∗ scopedBufs (thr d L) ∗ scopedSems0 (thr d L) ∗ owes (thr d L) O W)
      ⊢ wpV d L (printed L) fun _ =>
        iprop(((idxV.view.loc (thr d L) ↦[idxSet (tile L).val]{fullShare} (IX : Buf (Elt F) (idxV.view.loc (thr d L))))
          ∗ tabPts tab d L q ∗ done tab IX d L 128)
        ∗ scopedBufs (thr d L) ∗ scopedSems0 (thr d L) ∗ ∃ W', ⌜∀ p ∈ W', p ∈ W ∨ p.2 = none⌝ ∗ owes (thr d L) O W' : sProp 𝕄) := by
  obtain ⟨RS, hRS⟩ := ownSems_take (F := F) d L
  obtain ⟨RB, hRB⟩ := ownBufs_take (F := F) d L
  rw [kernel_eq, (K (F := F)).scopedBufs_V hF d (cV L) (jV L), SparseCore.Cfg.scopedSems0_V (Val := Elt F) d (cV L) (jV L), hRS, hRB,
    bigSep_four, bigSep_four]
  iintro ⟨#Hlv, -, ⟨Hi, Ht, Htodo⟩, ⟨⟨Hl, B0, B1, B2, B3⟩, HRB⟩, ⟨⟨Hs, S0, S1, S2, S3⟩, HRS⟩, HO⟩
  ihave Hmw := (show levAts (K (F := F)).L (K (F := F)).lev ⊢ Transfers.MayWaits (thr d L) (default : HIx 1) O from
    (K (F := F)).mayWaits_none (thr := thr d L) hO) $$ Hlv
  iapply (wp_wand_r (M := 𝕄) frame (wpE (defs₀ (F := F)) 𝒱₀ (thr d L) none) Set.univ)
  isplitl [Hi Ht Htodo Hl B0 B1 B2 B3 Hs S0 S1 S2 S3 HO]
  · iapply (wp_whole tab IX f₀ q d L O W hIX)
    isplitl [Hi]; · iexact Hi
    isplitl [Ht]; · iexact Ht
    isplitl [Htodo]; · iexact Htodo
    isplitl [Hl]; · iexact Hl
    isplitl [Hs]; · iexact Hs
    unfold Idle Owing
    isplitr [HO]
    · isplitl [B0 S0]; · isplitl [B0] <;> iassumption
      isplitl [B1 S1]; · isplitl [B1] <;> iassumption
      isplitl [B2 S2]; · isplitl [B2] <;> iassumption
      isplitl [B3] <;> iassumption
    · isplitr; · iexact Hmw
      iexists W
      isplitr
      · ipureintro; exact fun p hp => .inl hp
      · iexact HO
  unfold Idle Owing
  iintro %_ ⟨Hi, Ht, Hdone, Hl, Hs, ⟨⟨B0, S0⟩, ⟨B1, S1⟩, ⟨B2, S2⟩, ⟨B3, S3⟩⟩, -, HO⟩
  isplitl [Hi Ht Hdone]
  · isplitl [Hi]; · iexact Hi
    isplitl [Ht] <;> iassumption
  isplitl [Hl B0 B1 B2 B3 HRB]
  · isplitr [HRB]
    · isplitl [Hl]; · iexact Hl
      isplitl [B0]; · iexact B0
      isplitl [B1]; · iexact B1
      isplitl [B2] <;> iassumption
    · iexact HRB
  isplitl [Hs S0 S1 S2 S3 HRS]
  · isplitr [HRS]
    · isplitl [Hs]; · iexact Hs
      isplitl [S0]; · iexact S0
      isplitl [S1]; · iexact S1
      isplitl [S2] <;> iassumption
    · iexact HRS
  iexact HO

end Cert.Proof.Emb

end
-- ==== Proof.Launch.lean ====
/-
  The launch: the indices reshaped, each of the 32 tiles handed its row of them, a share of the table and its 512
  planes of the result, and everything joined again when they are done.
-/
module

public import proofs.«01_k».proof.Proof.Tile

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-- The indices as the kernel reads them, -/
def ixOf (d : Dev nD) : S32x25600.Idx → Elt F .i32 := shapeCast S32x25600 (m (aLoc d)) shapeCasts_S16384x50_S32x25600
/-- and the result. -/
@[irreducible] def resOf (d : Dev nD) : S16384x50x128.Idx → Elt F .f32 := result (F := F) (m (tLoc d)) (ixOf m d)

/-- What the proof asks of the launch memory: every index is a row of the table. -/
def PreOK : Prop := ∀ (d : Dev nD) (j : S16384x50.Idx), (m (aLoc d) j : BitVec 32).toNat < 100000

theorem ixOf_lt (h : PreOK m) (d : Dev nD) (j : S32x25600.Idx) : (ixOf m d j : BitVec 32).toNat < 100000 := h d _

/-! ## The tiles -/

def coordsV (c : Fin (grid0.bound 0)) (s : Fin (grid0.bound 1)) : grid0.Coords :=
  fun | 0 => c | 1 => s | ⟨_ + 2, h⟩ => absurd h (Nat.not_lt.2 (Nat.le_add_left _ _))

/-- The number of the tile at core `c`, subcore `i`. -/
def tileNo (c : Fin 2) (i : Fin 16) : Fin 32 := ⟨2 * i.val + c.val, by omega⟩

theorem bigSep_emp' {I : Type} (s : Finset I) : (bigSep s fun _ => iprop(emp)) = (iprop(emp) : sProp 𝕄) := bigSep_emp_const s

theorem bigSep_tiles (Φ : Fin 32 → sProp 𝕄) : bigSep Finset.univ Φ = bigSep Finset.univ fun c : Fin 2 => bigSep Finset.univ fun i : Fin 16 => Φ (tileNo c i) := by
  rw [bigSep_univ_equiv (((Equiv.prodComm (Fin 2) (Fin 16)).trans finProdFinEquiv : Fin 2 × Fin 16 ≃ Fin 32)) Φ, bigSep_univ_prod]
  refine bigSep_congr fun c _ => bigSep_congr fun i _ => congrArg Φ (Fin.ext ?_)
  simp [tileNo, finProdFinEquiv]
  omega

/-! ## What a tile takes and brings back -/

/-- Tile `w`'s 512 planes of the result, chunk by chunk. -/
def planes (d : Dev nD) (w : Fin 32) (f : S16384x50x128.Idx → Elt F .f32) : sProp 𝕄 :=
  bigSep (Finset.range 128) fun g => bigSep Finset.univ fun r : Fin 4 =>
    oLoc d ↦[plane (512 * w.val + (4 * g + r.val))]{fullShare} (f : Buf (Elt F) (oLoc d))

/-- Tile `w`'s row of the indices, its share of the table, its planes of the result. -/
@[irreducible] def share (d : Dev nD) (f : S16384x50x128.Idx → Elt F .f32) (w : Fin 32) : sProp 𝕄 :=
  iprop((iLoc d ↦[idxSet w.val]{fullShare} (ixOf m d : Buf (Elt F) (iLoc d))) ∗ (tLoc d ↦{Transfers.shareTok fullShare 32 w} m (tLoc d)) ∗ planes d w f)

instance share_storable (d : Dev nD) (f : S16384x50x128.Idx → Elt F .f32) (w : Fin 32) : BI.Storable (upEmb : UEmb _ 𝕄) (share m d f w) := by
  unfold share planes; infer_instance

/-- The sixteen shares of a core. -/
@[irreducible] def coreShare (d : Dev nD) (f : S16384x50x128.Idx → Elt F .f32) (c : Fin 2) : sProp 𝕄 :=
  bigSep Finset.univ fun i : Fin 16 => share m d f (tileNo c i)

instance coreShare_storable (d : Dev nD) (f : S16384x50x128.Idx → Elt F .f32) (c : Fin 2) : BI.Storable (upEmb : UEmb _ 𝕄) (coreShare m d f c) := by
  unfold coreShare; infer_instance

theorem idxSet_cover : ((Finset.univ : Finset (Fin 32)).biUnion fun w => idxSet w.val) = Finset.univ :=
  Finset.eq_univ_iff_forall.mpr fun j => by
    have hj : (j 0).val < 32 := (j 0).isLt
    exact Finset.mem_biUnion.mpr ⟨⟨(j 0).val, hj⟩, Finset.mem_univ _, mem_idxSet.mpr rfl⟩

theorem plane_cover : ((Finset.univ : Finset (Fin 32 × Fin 128 × Fin 4)).biUnion fun x => plane (512 * x.1.val + (4 * x.2.1.val + x.2.2.val))) = Finset.univ := by
  ext y
  rw [Finset.mem_biUnion]
  refine iff_of_true ?_ (Finset.mem_univ _)
  have hy : (y 0).val < 16384 := (y 0).isLt
  refine ⟨(⟨(y 0).val / 512, by omega⟩, ⟨(y 0).val % 512 / 4, by omega⟩, ⟨(y 0).val % 4, by omega⟩), Finset.mem_univ _, mem_plane.mpr ?_⟩
  simp only
  omega

theorem idx_tiles (d : Dev nD) (f : Buf (Elt F) (iLoc d)) :
    (iLoc d ↦{fullShare} f : sProp 𝕄) = bigSep Finset.univ fun w : Fin 32 => iLoc d ↦[idxSet w.val]{fullShare} f := by
  rw [← pointsTo_biUnion (ℓ := iLoc d) Finset.univ (fun w : Fin 32 => idxSet w.val) (fun w _ w' _ h => Finset.disjoint_left.mpr fun j h1 h2 =>
    h (Fin.ext ((mem_idxSet.mp h1).symm.trans (mem_idxSet.mp h2))))]
  rw [idxSet_cover]

theorem bigSep_range {n : ℕ} (Φ : ℕ → sProp 𝕄) : bigSep (Finset.range n) Φ = bigSep Finset.univ fun i : Fin n => Φ i.val := by
  rw [← Nat.Iio_eq_range, ← Fin.map_valEmbedding_univ, bigSep_map]; rfl

theorem out_tiles (d : Dev nD) (f : S16384x50x128.Idx → Elt F .f32) :
    (oLoc d ↦{fullShare} (f : Buf (Elt F) (oLoc d)) : sProp 𝕄) = bigSep Finset.univ fun w : Fin 32 => planes d w f := by
  unfold planes
  simp only [bigSep_range]
  rw [bigSep_congr (fun w _ => (bigSep_univ_prod (fun x : Fin 128 × Fin 4 =>
      (oLoc d ↦[plane (512 * w.val + (4 * x.1.val + x.2.val))]{fullShare} (f : Buf (Elt F) (oLoc d)) : sProp 𝕄))).symm),
    ← bigSep_univ_prod (fun x : Fin 32 × Fin 128 × Fin 4 =>
      (oLoc d ↦[plane (512 * x.1.val + (4 * x.2.1.val + x.2.2.val))]{fullShare} (f : Buf (Elt F) (oLoc d)) : sProp 𝕄)),
    ← pointsTo_biUnion (ℓ := oLoc d) Finset.univ (fun x : Fin 32 × Fin 128 × Fin 4 => plane (512 * x.1.val + (4 * x.2.1.val + x.2.2.val)))]
  · rw [plane_cover]
  · rintro ⟨w, g, r⟩ - ⟨w', g', r'⟩ - h
    refine plane_disjoint fun e => h ?_
    have h1 := w.isLt; have h2 := g.isLt; have h3 := r.isLt; have h4 := g'.isLt; have h5 := r'.isLt
    simp only at e
    have e1 : w = w' := Fin.ext (by omega)
    have e2 : g = g' := Fin.ext (by omega)
    have e3 : r = r' := Fin.ext (by omega)
    rw [e1, e2, e3]

/-- The three arrays whole are the tiles' shares, but for what is left of the table. -/
theorem shares_iff (d : Dev nD) (f : S16384x50x128.Idx → Elt F .f32) :
    (iprop((iLoc d ↦{fullShare} (ixOf m d : Buf (Elt F) (iLoc d))) ∗ (tLoc d ↦{fullShare} m (tLoc d)) ∗ oLoc d ↦{fullShare} (f : Buf (Elt F) (oLoc d))) : sProp 𝕄)
      ⊣⊢ iprop((tLoc d ↦{Transfers.shareDrop fullShare 32} m (tLoc d))
        ∗ bigSep Finset.univ fun c : Fin 2 => coreShare m d f c) := by
  unfold coreShare
  rw [← bigSep_tiles (share m d f)]
  unfold share
  rw [bigSep_sep', bigSep_sep', ← idx_tiles, ← out_tiles]
  have h := Transfers.pointsTo_toks (U := UU) (Ix := HIx 1) (Name := ℕ) (Lvl := ℕ) (ℓ := tLoc d) (S := Finset.univ) (f := m (tLoc d)) fullShare 32
  constructor
  · iintro ⟨Hi, Ht, Ho⟩
    ihave Ht := h.1 $$ Ht
    icases Ht with ⟨Hd, Ht⟩
    isplitl [Hd]; · iexact Hd
    isplitl [Hi]; · iexact Hi
    isplitl [Ht] <;> iassumption
  · iintro ⟨Hd, Hi, Ht, Ho⟩
    isplitl [Hi]; · iexact Hi
    isplitr [Ho]
    · iapply h.2
      isplitl [Hd] <;> iassumption
    · iexact Ho

theorem nCore_zero : (K (F := F)).nCore 0 = 2 := rfl
theorem nSub_zero : (K (F := F)).nSub 0 = 16 := rfl

/-- A core takes its sixteen tiles' shares and hands each tile its own. -/
def P : (K (F := F)).Pay (nD := nD) (Val := Elt F) (Name := ℕ) (U := UU) where
  st := fun q d c => match q with | 0 => coreShare m d (m (oLoc d)) (Fin.cast nCore_zero c)
  dn := fun q d c => match q with | 0 => coreShare m d (resOf m d) (Fin.cast nCore_zero c)
  go := fun q d c i => match q with | 0 => share m d (m (oLoc d)) (tileNo (Fin.cast nCore_zero c) (Fin.cast nSub_zero i))
  td := fun q d c i => match q with | 0 => share m d (resOf m d) (tileNo (Fin.cast nCore_zero c) (Fin.cast nSub_zero i))
  x := fun _ _ => iprop(emp)

instance P_storable : (P (F := F) m).IsStorable where
  st q d c := match q with
    | 0 => (inferInstance : BI.Storable (upEmb : UEmb _ 𝕄) (coreShare m d (m (oLoc d)) (Fin.cast nCore_zero c)))
  dn q d c := match q with
    | 0 => (inferInstance : BI.Storable (upEmb : UEmb _ 𝕄) (coreShare m d (resOf m d) (Fin.cast nCore_zero c)))
  go q d c i := match q with
    | 0 => (inferInstance : BI.Storable (upEmb : UEmb _ 𝕄) (share m d (m (oLoc d)) (tileNo (Fin.cast nCore_zero c) (Fin.cast nSub_zero i))))
  td q d c i := match q with
    | 0 => (inferInstance : BI.Storable (upEmb : UEmb _ 𝕄) (share m d (resOf m d) (tileNo (Fin.cast nCore_zero c) (Fin.cast nSub_zero i))))

theorem coreShare_tiles (d : Dev nD) (f : S16384x50x128.Idx → Elt F .f32) (c : Fin 2) :
    (coreShare m d f c : sProp 𝕄) = bigSep Finset.univ fun i : Fin ((K (F := F)).nSub 0) => share m d f (tileNo c (Fin.cast nSub_zero i)) := by
  unfold coreShare
  exact bigSep_congr fun _ _ => congrArg (fun i => share m d f (tileNo c i)) (Fin.ext rfl)

theorem vecSplit [FloatOps F] : (K (F := F)).VecSplit' (P m) 0 := by
  intro d c
  show coreShare m d (m (oLoc d)) (Fin.cast nCore_zero c) ⊢ |={Set.univ}=> iprop(
      (bigSep Finset.univ fun i : Fin ((K (F := F)).nSub 0) => share m d (m (oLoc d)) (tileNo (Fin.cast nCore_zero c) (Fin.cast nSub_zero i)))
      ∗ ((bigSep Finset.univ fun i : Fin ((K (F := F)).nSub 0) => share m d (resOf m d) (tileNo (Fin.cast nCore_zero c) (Fin.cast nSub_zero i)))
        -∗ coreShare m d (resOf m d) (Fin.cast nCore_zero c)))
  rw [coreShare_tiles, coreShare_tiles]
  iintro H
  imodintro
  isplitl [H]; · iexact H
  iintro H
  iexact H

/-! ## A tile's obligation -/

variable [FloatOps F]

theorem share_todo (d : Dev nD) (L : grid0.Coords) (f : S16384x50x128.Idx → Elt F .f32) :
    (share m d f (tile L) : sProp 𝕄)
      = iprop((idxV.view.loc (thr d L) ↦[idxSet (tile L).val]{fullShare} (ixOf m d : Buf (Elt F) (idxV.view.loc (thr d L))))
        ∗ tabPts (m (tLoc d)) d L (Transfers.shareTok fullShare 32 (tile L)) ∗ todo f d L 0) := by
  unfold share planes todo
  rw [Finset.range_eq_Ico]

theorem share_done (d : Dev nD) (L : grid0.Coords) :
    (share m d (resOf m d) (tile L) : sProp 𝕄)
      = iprop((idxV.view.loc (thr d L) ↦[idxSet (tile L).val]{fullShare} (ixOf m d : Buf (Elt F) (idxV.view.loc (thr d L))))
        ∗ tabPts (m (tLoc d)) d L (Transfers.shareTok fullShare 32 (tile L)) ∗ done (m (tLoc d)) (ixOf m d) d L 128) := by
  unfold share planes done resOf
  rfl

theorem defs₀_vector (c : Fin τ.nSC) (s : Fin τ.nSub) :
    defs₀ (F := F) (.scVector c s) 0 () = SparseCore.onTile hcore0 hsub0 (fun c s => printed (F := F) (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem share_body (hpre : PreOK m) (d : Dev nD) (L : grid0.Coords) (O : CellTallies nD τ sig (HIx 1)) (W : Waits sig (HIx 1))
    (hF : (K (F := F)).Facts) (hO : ∀ g, O g none = 0) :
    iprop(levAts (K (F := F)).L (K (F := F)).lev ∗ emp ∗ share m d (m (oLoc d)) (tile L)
        ∗ scopedBufs (thr d L) ∗ scopedSems0 (thr d L) ∗ owes (thr d L) O W)
      ⊢ wpV d L (printed L) fun _ => iprop(share m d (resOf m d) (tile L)
        ∗ scopedBufs (thr d L) ∗ scopedSems0 (thr d L) ∗ ∃ W', ⌜∀ p ∈ W', p ∈ W ∨ p.2 = none⌝ ∗ owes (thr d L) O W' : sProp 𝕄) := by
  rw [share_todo, share_done]
  exact tile_body (m (tLoc d)) (ixOf m d) (m (oLoc d)) _ d L O W (ixOf_lt m hpre d) hF hO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (share_body m hpre d (coordsV ⟨_, hci.1⟩ ⟨_, hci.2⟩) O W hF hO).trans (wp_mono frame _ _ fun _ => obl_post)

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev opR : HloOp τ sig (Elt F) := StableHlo.reshape main_arg0 main_v0 rfl shapeCasts_S16384x50_S32x25600
abbrev S4 : Finset (DevRef τ sig) := {a', t', i', o'}

theorem held_S4 (d : Dev nD) (W : Valuation τ sig (Elt F)) :
    (held (T d) S4 W : sProp 𝕄) = iprop((aLoc d ↦{fullShare} W a') ∗ (tLoc d ↦{fullShare} W t') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (iLoc d ↦{fullShare} W main_v0)
      ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a', i'} : Finset (DevRef τ sig)) ⊆ S4 by decide

/-- After the reshape. -/
theorem held_V1 (d : Dev nD) :
    (held (T d) S4 ((opR (F := F)).result (V0 m d)) : sProp 𝕄)
      = iprop((aLoc d ↦{fullShare} m (aLoc d)) ∗ (tLoc d ↦{fullShare} m (tLoc d)) ∗ (iLoc d ↦{fullShare} (ixOf m d : Buf (Elt F) (iLoc d)))
        ∗ oLoc d ↦{fullShare} m (oLoc d)) := by
  rw [held_S4, StableHlo.reshape_result_ne (τ := τ) main_arg0 main_v0 _ _ _ _ (V0 m d) (r := main_arg0) (by decide),
    StableHlo.reshape_result_ne (τ := τ) main_arg0 main_v0 _ _ _ _ (V0 m d) (r := main_arg1) (by decide),
    StableHlo.reshape_result_ne (τ := τ) main_arg0 main_v0 _ _ _ _ (V0 m d) (r := main_v1) (by decide),
    (StableHlo.reshape_result (Val := Elt F) main_arg0 main_v0 rfl shapeCasts_S16384x50_S32x25600 _ _ (V0 m d))]
  rfl

/-- What the host program leaves: the arguments as they were, the result done. -/
abbrev FIN (d : Dev nD) : sProp 𝕄 :=
  iprop((aLoc d ↦{fullShare} m (aLoc d)) ∗ (tLoc d ↦{fullShare} m (tLoc d)) ∗ oLoc d ↦{fullShare} (resOf m d : Buf (Elt F) (oLoc d)))

theorem st0_eq (d : Dev nD) : (bigSep Finset.univ fun c : Fin ((K (F := F)).nCore 0) => (P m).st 0 d c)
    = bigSep Finset.univ fun c : Fin 2 => coreShare m d (m (oLoc d)) c :=
  bigSep_congr (s := (Finset.univ : Finset (Fin 2))) fun c _ => congrArg (coreShare m d (m (oLoc d))) (Fin.ext rfl)
theorem dn0_eq (d : Dev nD) : (bigSep Finset.univ fun c : Fin ((K (F := F)).nCore 0) => (P m).dn 0 d c)
    = bigSep Finset.univ fun c : Fin 2 => coreShare m d (resOf m d) c :=
  bigSep_congr (s := (Finset.univ : Finset (Fin 2))) fun c _ => congrArg (coreShare m d (resOf m d)) (Fin.ext rfl)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S4) hR (V := V0 m d)) $$ [Hb Hheld]
  · isplitl [Hb] <;> iassumption
  iintro ⟨Hb, Hheld⟩
  ihave Hh := (Entails.of_eq (held_V1 (F := F) m d)) $$ Hheld
  icases Hh with ⟨Ha, Ht, Hi, Ho⟩
  rw [wp_ret]; imodintro
  ihave Hsh := (shares_iff m d (m (oLoc d))).1 $$ [Hi Ht Ho]
  · isplitl [Hi]; · iexact Hi
    isplitl [Ht] <;> iassumption
  icases Hsh with ⟨Hd, Hsh⟩
  iapply ((K (F := F)).wp_run (D (F := F)) 𝒱 (EH := EH) (P := P m) κ d 0) $$ [Hst Hsh Ha Hd Hb Hts]
  isplitr; · iexact Hctx
  isplitl [Hst]; · iexact Hst
  isplitl [Hsh]; · rw [st0_eq]; iexact Hsh
  iintro ⟨Hst, Hdn⟩
  ihave Hdn' := (Entails.of_eq (dn0_eq m d)) $$ Hdn
  ihave Hall := (shares_iff m d (resOf m d)).2 $$ [Hd Hdn']
  · isplitl [Hd] <;> iassumption
  icases Hall with ⟨-, Ht, Ho⟩
  imodintro
  isplitl [Hst]; · iexact Hst
  isplitr [Hb Hts]
  · isplitl [Ha]; · iexact Ha
    isplitl [Ht] <;> iassumption
  isplitl [Hb] <;> iassumption

def fq (d : Dev nD) (s' : Phys nD τ sig (Elt F)) : Prop :=
  s'.mem.mem (aLoc d) = m (aLoc d) ∧ s'.mem.mem (tLoc d) = m (tLoc d) ∧ s'.mem.mem (oLoc d) = resOf m d

/-- Memory agrees with what is held whole. -/
theorem mem_of_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (mem_of_whole s' (aLoc d) (m (aLoc d))) $$ [HSI Ha]
  · isplitl [Ha] <;> iassumption
  icases H with ⟨%h1, HSI⟩
  ihave H := (mem_of_whole s' (tLoc d) (m (tLoc d))) $$ [HSI Ht]
  · isplitl [Ht] <;> iassumption
  icases H with ⟨%h2, HSI⟩
  ihave H := (mem_of_whole s' (oLoc d) (resOf m d : Buf (Elt F) (oLoc d))) $$ [HSI Ho]
  · isplitl [Ho] <;> iassumption
  icases H with ⟨%h3, -⟩
  ipureintro; exact ⟨h1, h2, h3⟩

/-! ## The program's run -/

def QC : PUnit × MemSt nD τ sig (Elt F) → Prop := fun r =>
  (∀ c : Dev nD, r.2.mem (aLoc c) = m (aLoc c) ∧ r.2.mem (tLoc c) = m (tLoc c) ∧ r.2.mem (oLoc c) = resOf m c) ∧ r.2.sem = fun _ => 0

/-- The program runs, its arguments unchanged, its result `resOf`, every semaphore back at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Emb

end
-- ==== Proof.Reference.lean ====
/-
  The reference. Its @main is `jnp.take` of the table at the indices: where every index is a row of the table, each
  result row is the table row its index names, which is `result` of the indices laid out as the kernel reads them.
-/
module

public import proofs.«01_k».proof.Proof.Launch
public import proofs.«01_k».proof.Proof.Gen.ReferenceIdeal.Run
public import proofs.«01_k».proof.Proof.Gen.Pre_in_range
public import Idealize.ShloMosaic.Lib.ReduceAll
public import Idealize.ShloMosaic.Lib.Quiescent

@[expose] public section

noncomputable section

namespace Cert.Proof.Take

open Cert.ReferenceIdeal Cert.ReferenceIdeal.Gen
open Idealize.ShloMosaic Idealize.SL.Sem

variable {F : FTy → Type} [FloatOps F]

/-! ## Words -/

/-- A word below 100000 read signed is the same number. -/
theorem toInt_row {v : BitVec 32} (h : v.toNat < 100000) : v.toInt = (v.toNat : ℤ) := by
  rw [BitVec.toInt_eq_toNat_cond]; omega

/-- Such a word is not negative, -/
theorem not_below {v : BitVec 32} (h : v.toNat < 100000) : ¬ IntOp.cmpi .slt v 0#32 = 1#1 := by
  rw [IntOp.cmpi_slt, toInt_row h, show (0#32 : BitVec 32).toInt = 0 by decide]; omega

/-- and lies between 0 and 99999. -/
theorem between {v : BitVec 32} (h : v.toNat < 100000) :
    IntOp.andi (IntOp.cmpi .sge v 0#32) (IntOp.cmpi .sle v 99999#32) = 1#1 := by
  rw [IntOp.andi_eq_one, IntOp.cmpi_sge, IntOp.cmpi_sle, toInt_row h, show (0#32 : BitVec 32).toInt = 0 by decide,
    show (99999#32 : BitVec 32).toInt = 99999 by decide]
  omega

/-- A word from 0 to 99999 read signed is below 100000. -/
theorem row_of_cmp {v : BitVec 32} (h : IntOp.andi (IntOp.cmpi .sge v 0#32) (IntOp.cmpi .slt v 100000#32) = 1#1) :
    v.toNat < 100000 := by
  obtain ⟨h0, h1⟩ := IntOp.andi_eq_one.1 h
  rw [IntOp.cmpi_sge] at h0
  rw [IntOp.cmpi_slt] at h1
  have e0 : (0#32 : BitVec 32).toInt = 0 := by decide
  have e1 : (100000#32 : BitVec 32).toInt = 100000 := by decide
  rw [e0] at h0; rw [e1] at h1
  rw [BitVec.toInt_eq_toNat_cond] at h0 h1
  split at h0 <;> omega

/-- The precondition's function, all ones, says every index is a row of the table. -/
theorem row_of_pre (a : IVec S16384x50 32) (t : FVec F S100000x128 .f32) (h : Cert.Pre_in_range.fn (F := F) a t = fun _ => 1#1)
    (j : S16384x50.Idx) : (a j).toNat < 100000 := by
  have h0 := congrFun h (fun b => b.elim0)
  haveI : Subsingleton Cert.Pre_in_range.S_.Idx := ⟨fun x y => funext fun b => b.elim0⟩
  exact row_of_cmp (Host.reduce_andi_all _ _ _ _ _ h0 j)

/-! ## The reference's term -/

section Term

variable (a : IVec S16384x50 32) (t : FVec F S100000x128 .f32)

/-- The row each index names, a negative one counted from the table's end. -/
def starts : IVec S16384x50x1 32 :=
  broadcastInDim S16384x50x1 ![0, 1] bcast_S16384x50_S16384x50x1_0_1
    (select (cmpi .slt a (broadcastInDim S16384x50 ![] bcast_S_S16384x50 (constantI S_ 32 0#32)))
      (addi a (broadcastInDim S16384x50 ![] bcast_S_S16384x50 (constantI S_ 32 100000#32))) a)

/-- Whether that is a row of the table. -/
def inside : IVec S16384x50 1 :=
  Host.reduce IntOp.andi
    (andi (cmpi .sge (starts a) (broadcastInDim S16384x50x1 ![] bcast_S_S16384x50x1 (constantI S_ 32 0#32)))
      (cmpi .sle (starts a) (broadcastInDim S16384x50x1 ![0, 1, 2] bcast_S1x1x1_S16384x50x1_0_1_2
        (broadcastInDim S1x1x1 ![2] bcast_S1_S1x1x1_2 (constantI S1 32 99999#32)))))
    (constantI S_ 1 1#1) reducesTo_S16384x50x1_S16384x50_d2 h_S_

/-- What the reference computes. -/
def taken : FVec F S16384x50x128 .f32 :=
  select (broadcastInDim S16384x50x128 ![0, 1] bcast_S16384x50_S16384x50x128_0_1 (inside a))
    (Host.gather gather_S100000x128_S16384x50x1_S16384x50x128_2_0_n_n_0_2_1128 t (starts a))
    (broadcastInDim S16384x50x128 ![] bcast_S_S16384x50x128 (constant S_ .f32 0x7FC00000#32))

variable {a}
variable (ha : ∀ j, (a j).toNat < 100000)
include ha

theorem starts_apply (j : S16384x50x1.Idx) : starts a j = a (Shape.pair (j 0) (j 1)) := by
  have e : (fun b : Fin S16384x50.rank => if h1 : S16384x50.size b = 1 then (⟨0, by omega⟩ : Fin (S16384x50.size b))
      else ⟨(j ((![0, 1] : Fin 2 → Fin 3) b)).val, by
        match b with
        | 0 => exact (j 0).isLt
        | 1 => exact (j 1).isLt⟩) = Shape.pair (j 0) (j 1) := by
    funext b
    match b with
    | 0 => rfl
    | 1 => rfl
  have hs : starts a j = (select (cmpi .slt a (broadcastInDim S16384x50 ![] bcast_S_S16384x50 (constantI S_ 32 0#32)))
      (addi a (broadcastInDim S16384x50 ![] bcast_S_S16384x50 (constantI S_ 32 100000#32))) a) (Shape.pair (j 0) (j 1)) := by
    rw [← e]; rfl
  rw [hs]
  show Scalar.select (IntOp.cmpi .slt (a _) 0#32) _ (a _) = _
  exact if_neg (not_below (ha _))

theorem inside_apply (j : S16384x50.Idx) : inside a j = 1#1 := by
  unfold inside
  refine Host.reduce_andi_one _ _ _ _ _ rfl fun i => ?_
  show IntOp.andi (IntOp.cmpi .sge (starts a i) 0#32) (IntOp.cmpi .sle (starts a i) 99999#32) = 1#1
  rw [starts_apply ha]
  exact between (ha _)

/-- The gather reads, at a result's index, the table row its index names and its own column. -/
theorem gather_apply (y : S16384x50x128.Idx) :
    Host.gather gather_S100000x128_S16384x50x1_S16384x50x128_2_0_n_n_0_2_1128 t (starts a) y
      = t (Shape.pair ⟨(a (Shape.pair (y 0) (y 1))).toNat, ha _⟩ (y 2)) := by
  unfold Host.gather
  congr 1
  funext b
  apply Fin.ext
  show GatherDims.start _ y (starts a) b + GatherDims.batchCoord _ y b + GatherDims.offCoord _ y b = _
  rw [GatherDims.batchCoord_eq_zero _ _ _ (show b ∉ ([] : List (Fin 2)) from List.not_mem_nil)]
  match b with
  | 0 =>
    rw [GatherDims.offCoord_eq_zero _ _ _ (fun h => ((GatherDims.mem_sKept _ _).1 h).1 (List.mem_singleton.2 rfl))]
    refine (congrArg (fun n => n + 0 + 0) (dif_pos (show (0 : Fin 2) ∈ ([0] : List (Fin 2)) from List.mem_singleton.2 rfl))).trans ?_
    rw [starts_apply ha, toInt_row (ha _)]
    exact Nat.min_eq_left (Nat.le_of_lt_succ (ha (Shape.pair (y 0) (y 1))))
  | 1 =>
    refine (congrArg₂ (fun n k => n + 0 + k) (dif_neg (show (1 : Fin 2) ∉ ([0] : List (Fin 2)) by decide))
      (dif_pos ((GatherDims.mem_sKept _ _).2 ⟨show (1 : Fin 2) ∉ ([0] : List (Fin 2)) by decide, List.not_mem_nil⟩))).trans ?_
    rw [Nat.add_zero, Nat.zero_add]
    rfl

/-- What the reference computes is the table's row at each index. -/
theorem taken_apply (y : S16384x50x128.Idx) :
    taken a t y = t (Shape.pair ⟨(a (Shape.pair (y 0) (y 1))).toNat, ha _⟩ (y 2)) := by
  unfold taken
  show Scalar.select (inside a _) (Host.gather _ t (starts a) y) _ = _
  rw [inside_apply ha, gather_apply t ha]
  rfl

end Term

/-! ## The reference's run -/

variable (m : (ℓ : Loc nD τ sig) → Buf (Elt F) ℓ) (ρ : Dev nD → PrngReg)

/-- The reference runs, its result `taken`, its arguments unchanged, every semaphore zero. -/
theorem run_main :
    θ_run (defs (F := F)) (onTc (τ := τ) (main (F := F))) ⟨m, fun _ => 0, ρ⟩ fun r =>
      (∀ c : Dev nD, r.2.mem ((c.tc : Thread nD τ).loc main_v0)
            = taken (F := F) (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono (fun r h => ⟨h, sem_eq_zero_of_no_sems (by decide) r.2⟩) (Value.run (F := F) m ρ)

end Cert.Proof.Take

/-! ## The kernel's result and the reference's -/

namespace Cert.Proof.Emb

open Idealize.ShloMosaic

variable {F : FTy → Type} [FloatOps F]

/-- Word `n` of tile `w`'s list, for a result row of that tile, is that row's index. -/
theorem list_word (a : Cert.KernelIdeal.S16384x50.Idx → Elt F .i32) (p : Fin 16384) (q : Fin 50)
    (hw : p.val / 512 < 32) (hn : p.val % 512 * 50 + q.val < 25600) :
    shapeCast Cert.KernelIdeal.S32x25600 a Cert.KernelIdeal.Gen.shapeCasts_S16384x50_S32x25600
        (Shape.pair ⟨p.val / 512, hw⟩ ⟨p.val % 512 * 50 + q.val, hn⟩)
      = a (Shape.pair p q) := by
  unfold shapeCast
  congr 1
  refine (Shape.rowMajor _).injective (Fin.ext ?_)
  refine (Shape.rowMajor_reshapeEquiv _ _).trans ((Shape.rowMajor_pair_val (d := ![32, 25600]) _ _).trans
    (Eq.trans ?_ (Shape.rowMajor_pair_val (d := ![16384, 50]) p q).symm))
  show p.val / 512 * 25600 + (p.val % 512 * 50 + q.val) = p.val * 50 + q.val
  omega

/-- The kernel's result is the reference's, of the same arguments. -/
theorem result_eq_taken (a : Cert.KernelIdeal.S16384x50.Idx → Elt F .i32) (t : Cert.KernelIdeal.S100000x128.Idx → Elt F .f32)
    (ha : ∀ j, (a j : BitVec 32).toNat < 100000) :
    result (F := F) t (shapeCast Cert.KernelIdeal.S32x25600 a Cert.KernelIdeal.Gen.shapeCasts_S16384x50_S32x25600)
      = Take.taken (F := F) a t := by
  funext y
  have h0 : (y 0).val < 16384 := (y 0).isLt
  have h1 : (y 1).val < 50 := (y 1).isLt
  have hn : (y 0).val % 512 * 50 + (y 1).val < 25600 := by omega
  refine Eq.trans ?_ (Take.taken_apply (F := F) t ha y).symm
  unfold result
  congr 2
  apply Fin.ext
  unfold rowNo
  have e : (⟨((y 0).val % 512 * 50 + (y 1).val) % 25600, Nat.mod_lt _ (by decide)⟩ : Fin 25600)
      = ⟨(y 0).val % 512 * 50 + (y 1).val, hn⟩ := Fin.ext (Nat.mod_eq_of_lt hn)
  show (shapeCast Cert.KernelIdeal.S32x25600 a _ (Shape.pair _ (⟨((y 0).val % 512 * 50 + (y 1).val) % 25600, _⟩ : Fin 25600)) : BitVec 32).toNat
      % 100000 = _
  rw [e]
  refine Eq.trans (congrArg (fun v : BitVec 32 => v.toNat % 100000) (list_word (F := F) a (y 0) (y 1) (by omega) hn)) ?_
  exact Nat.mod_eq_of_lt (ha _)

end Cert.Proof.Emb

end
-- ==== Proof.lean ====
/-
  The claims. The kernel's run is proved once, for any float values (`Emb.run_main`); both printings of the kernel are
  the same program, so each frame is that run read at its own floats. The reference's run is `Take.run_main`, and the
  two results are equal by `Emb.result_eq_taken`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Reference
public import Idealize.ShloMosaic.Adequacy
public import Idealize.ShloMosaic.Init

@[expose] public section

noncomputable section

namespace Cert.Proof

open Idealize.ShloMosaic Idealize.SL.Sem

/-- The kernel runs, leaves its arguments as they were and every semaphore at zero. -/
theorem frame_kernel : Cert.quiescent_Kernel := fun m ρ h =>
  (θ_run Cert.KernelIdeal.defs _ _).mono (fun _ q => ⟨fun c => ⟨(q.1 c).1, (q.1 c).2.1⟩, q.2⟩)
    (Emb.run_main (F := Bits) m ρ fun d => Take.row_of_pre (F := Bits) _ _ (h d))

/-- So does its ideal printing. -/
theorem frame_kernelIdeal : Cert.quiescent_KernelIdeal := fun m ρ h =>
  (θ_run Cert.KernelIdeal.defs _ _).mono (fun _ q => ⟨fun c => ⟨(q.1 c).1, (q.1 c).2.1⟩, q.2⟩)
    (Emb.run_main (F := Ideal) m ρ fun d => Take.row_of_pre (F := Ideal) _ _ (h d))

/-- So does the reference, whatever its arguments. -/
theorem frame_reference : Cert.quiescent_ReferenceIdeal := fun m ρ _ =>
  (θ_run Cert.ReferenceIdeal.defs _ _).mono (fun _ q => ⟨fun c => (q.1 c).2, q.2⟩) (Take.run_main (F := Ideal) m ρ)

/-- Over the ideal floats, from equal arguments, the kernel and the reference end with equal results. -/
theorem algebraic : Cert.algebraic_KernelIdeal_ReferenceIdeal := by
  intro m ρ m' ρ' h hEq
  have hOK : Emb.PreOK m := fun d => Take.row_of_pre (F := Ideal) _ _ (h d)
  refine ⟨fun c => Emb.resOf m c,
    (θ_run Cert.KernelIdeal.defs _ _).mono (fun _ q c => ⟨(q.1 c).2.2, (q.1 c).1, (q.1 c).2.1⟩) (Emb.run_main (F := Ideal) m ρ hOK),
    (θ_run Cert.ReferenceIdeal.defs _ _).mono (fun _ q c => ⟨(q.1 c).1.trans ?_, (q.1 c).2⟩) (Take.run_main (F := Ideal) m' ρ')⟩
  rw [(hEq c).1, (hEq c).2]
  unfold Emb.resOf Emb.ixOf
  exact (Emb.result_eq_taken (F := Ideal) _ _ (hOK c)).symm

theorem claim : Cert.Claim :=
  ⟨Cert.Kernel.Gen.facts, Cert.KernelIdeal.Gen.facts, Cert.ReferenceIdeal.Gen.facts, Cert.Pre_in_range.Gen.facts,
    frame_kernel, frame_kernelIdeal, frame_reference, fun m ρ _ => frame_reference m ρ trivial, trivial, algebraic⟩

end Cert.Proof

end
